-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S100000x128 : Shape := ⟨2, ![100000, 128]⟩
abbrev S1x128 : Shape := ⟨2, ![1, 128]⟩
abbrev S10000x128 : Shape := ⟨2, ![10000, 128]⟩
abbrev S64x128 : Shape := ⟨2, ![64, 128]⟩
abbrev S8x128 : Shape := ⟨2, ![8, 128]⟩
abbrev S128 : Shape := ⟨1, ![128]⟩

abbrev nBuf : Space → Nat
  | .hbm => 6
  | .vmem => 7
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S100000x128, .f32⟩
  | .hbm, ⟨3, _⟩ => ⟨S100000x128, .f32⟩
  | .hbm, ⟨4, _⟩ => ⟨S1x128, .i32⟩
  | .hbm, ⟨5, _⟩ => ⟨S128, .i32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S1x128, .i32⟩
  | .local _ .vmem, ⟨5, _⟩ => ⟨S64x128, .f32⟩
  | .local _ .vmem, ⟨6, _⟩ => ⟨S64x128, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32_6315 : BitVec 32 := 9#32
  let v20068 : BitVec 1 := Scalar.cmpi .eq arg0 c9_i32_6315
  let v20069 : BitVec 32 := Scalar.extui v20068
  let c0_i32_6316 : BitVec 32 := 0#32
  let v20070 : BitVec 1 := Scalar.cmpi .ne v20069 c0_i32_6316
  v20070

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S128x100000 : Shape := ⟨2, ![128, 100000]⟩
abbrev S_ : Shape := ⟨0, ![]⟩
abbrev S128 : Shape := ⟨1, ![128]⟩

abbrev nBuf : Space → Nat
  | .hbm => 21
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S_, .f32⟩
  | .hbm, ⟨3, _⟩ => ⟨S128x100000, .f32⟩
  | .hbm, ⟨4, _⟩ => ⟨S128x100000, .f32⟩
  | .hbm, ⟨5, _⟩ => ⟨S_, .f32⟩
  | .hbm, ⟨6, _⟩ => ⟨S128x100000, .f32⟩
  | .hbm, ⟨7, _⟩ => ⟨S128x100000, .f32⟩
  | .hbm, ⟨8, _⟩ => ⟨S128x100000, .f32⟩
  | .hbm, ⟨9, _⟩ => ⟨S128x100000, .f32⟩
  | .hbm, ⟨10, _⟩ => ⟨S_, .f32⟩
  | .hbm, ⟨11, _⟩ => ⟨S128x100000, .f32⟩
  | .hbm, ⟨12, _⟩ => ⟨S128x100000, .f32⟩
  | .hbm, ⟨13, _⟩ => ⟨S128x100000, .f32⟩
  | .hbm, ⟨14, _⟩ => ⟨S128x100000, .f32⟩
  | .hbm, ⟨15, _⟩ => ⟨S128x100000, .f32⟩
  | .hbm, ⟨16, _⟩ => ⟨S128x100000, .i32⟩
  | .hbm, ⟨17, _⟩ => ⟨S_, .f32⟩
  | .hbm, ⟨18, _⟩ => ⟨S_, .i32⟩
  | .hbm, ⟨19, _⟩ => ⟨S128, .f32⟩
  | .hbm, ⟨20, _⟩ => ⟨S128, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.Chain.lean ====
/- The body of the kernel at one grid point, said with a recursion: eight chains of "keep the larger score" steps. -/
module

public import proofs.«01_k».proof.Proof.Gen.KernelIdeal.Frame

@[expose] public section

set_option maxRecDepth 65536

noncomputable section

namespace Cert.Chain

open Idealize.ShloMosaic Idealize.ShloMosaic.Tactic
open Cert.KernelIdeal Cert.KernelIdeal.Gen

variable {F : FTy → Type} [FloatOps F]

/-- The eight rows a chunk starts at stay inside the block. -/
theorem chunk_inb (k : Nat) : ∀ a, (![8 * (k % 1250), 0] : Fin 2 → Nat) a + S8x128.size a ≤ S10000x128.size a := by
  intro a
  have hk : k % 1250 < 1250 := Nat.mod_lt _ (by decide)
  fin_cases a
  · show 8 * (k % 1250) + 8 ≤ 10000
    omega
  · show 0 + 128 ≤ 128
    omega

/-- Chunk `k` of a block held in a whole staging buffer: its rows `8 k, …, 8 k + 7`. -/
def chunk (arg : Memref sig .tc .vmem S10000x128 .f32) (harg : arg.IsWhole) (x : Vec F S10000x128 .f32) (k : Nat) :
    FVec F S8x128 .f32 :=
  View.readAt (Elt F) arg.view (Rect.unit (s := S10000x128) ![8 * (k % 1250), 0] S8x128.size (chunk_inb k)).toLoadRect
    (harg.unread x)

/-- The small constant added inside both logarithms. -/
def tiny : F .f32 := Scalar.ofBits .f32 0x1E3CE508#32

/-- The score of a chunk, from its logits and its uniform numbers. -/
def score (l u : FVec F S8x128 .f32) : FVec F S8x128 .f32 :=
  subf (shapeCast S8x128 l shapeCasts_S8x128_S8x128)
    (log (subf (broadcast S8x128 (tiny (F := F)))
      (log (addf (shapeCast S8x128 u shapeCasts_S8x128_S8x128) (broadcast S8x128 (tiny (F := F)))))))

/-- Accumulator `a` after `n` steps from `v`: step `n` keeps the larger of it and the score of chunk `8 n + a`. -/
def chainV (X : Nat → FVec F S8x128 .f32) (a : Nat) (v : FVec F S8x128 .f32) : Nat → FVec F S8x128 .f32 :=
  fun n => Nat.rec v (fun n w => select (cmpf .ogt (X (8 * n + a)) w) (X (8 * n + a)) w) n

/-- The word kept beside accumulator `a` after `n` steps from `j`: the chunk the accumulator was last taken from. -/
def chainI (X : Nat → FVec F S8x128 .f32) (b : BitVec 32) (a : Nat) (v : FVec F S8x128 .f32) (j : IVec S8x128 32) :
    Nat → IVec S8x128 32 :=
  fun n => Nat.rec j (fun n w => select (cmpf .ogt (X (8 * n + a)) (chainV X a v n))
    (broadcast S8x128 (Scalar.addi b (BitVec.ofNat 32 (8 * n + a)))) w) n

/-- How many of a block's chunks accumulator `a` sees. -/
def cnt (a : Nat) : Nat := (1257 - a) / 8

/-- Accumulator `a` at the end of a block. -/
def endV (X : Nat → FVec F S8x128 .f32) (v : Nat → FVec F S8x128 .f32) (a : Nat) : FVec F S8x128 .f32 :=
  chainV X a (v a) (cnt a)

/-- The word beside accumulator `a` at the end of a block. -/
def endI (X : Nat → FVec F S8x128 .f32) (b : BitVec 32) (v : Nat → FVec F S8x128 .f32) (j : Nat → IVec S8x128 32) (a : Nat) :
    IVec S8x128 32 :=
  chainI X b a (v a) (j a) (cnt a)

/-- The eight rows of an accumulator lie within the scratch. -/
theorem rows_inb (a : Nat) : ∀ x, (![8 * (a % 8), 0] : Fin 2 → Nat) x + S8x128.size x ≤ S64x128.size x := by
  intro x
  have hk : a % 8 < 8 := Nat.mod_lt _ (by decide)
  fin_cases x
  · show 8 * (a % 8) + 8 ≤ 64
    omega
  · show 0 + 128 ≤ 128
    omega

/-- The rows of the scratch buffers that hold accumulator `a`. -/
def rows (a : Nat) : Rect S64x128 := Rect.unit (s := S64x128) ![8 * (a % 8), 0] S8x128.size (rows_inb a)

/-- What a block stores into a scratch buffer of numbers: every accumulator in its rows. -/
def storeV (w : Nat → FVec F S8x128 .f32) (L : List (View.Piece (Elt F) S64x128 .f32)) : List (View.Piece (Elt F) S64x128 .f32) :=
  let p a : View.Piece (Elt F) S64x128 .f32 := ⟨rows a, shapeCast S8x128 (w a) shapeCasts_S8x128_S8x128⟩
  p 7 :: p 6 :: p 5 :: p 4 :: p 3 :: p 2 :: p 1 :: p 0 :: L

/-- What a block stores into a scratch buffer of words. -/
def storeI (w : Nat → IVec S8x128 32) (L : List (View.Piece (Elt F) S64x128 .i32)) : List (View.Piece (Elt F) S64x128 .i32) :=
  let p a : View.Piece (Elt F) S64x128 .i32 := ⟨rows a, shapeCast S8x128 (w a) shapeCasts_S8x128_S8x128⟩
  p 7 :: p 6 :: p 5 :: p 4 :: p 3 :: p 2 :: p 1 :: p 0 :: L

/-- Accumulator `a` as read back from the scratch buffer. -/
def readV (arg : Memref sig .tc .vmem S64x128 .f32) (harg : arg.IsWhole) (x : Vec F S64x128 .f32) (a : Nat) : FVec F S8x128 .f32 :=
  View.readAt (Elt F) arg.view (rows a).toLoadRect (harg.unread x)

/-- Accumulator `a`'s chunk numbers, read from the scratch. -/
def readI (arg : Memref sig .tc .vmem S64x128 .i32) (harg : arg.IsWhole) (x : Vec F S64x128 .i32) (a : Nat) : IVec S8x128 32 :=
  View.readAt (Elt F) arg.view (rows a).toLoadRect (harg.unread x)

/-- The scores of the chunks of a block. -/
def scores (arg1 : Memref sig .tc .vmem S10000x128 .f32) (harg1 : arg1.IsWhole) (arg2 : Memref sig .tc .vmem S10000x128 .f32)
    (harg2 : arg2.IsWhole) (x0 x1 : Vec F S10000x128 .f32) (k : Nat) : FVec F S8x128 .f32 :=
  score (chunk arg1 harg1 x0 k) (chunk arg2 harg2 x1 k)

/-- The number of chunks before the block of a grid point, as the kernel computes it. -/
def base (i : grid0.Coords) : BitVec 32 := Scalar.muli (BitVec.ofNat 32 (i 0).val) 1250#32

/-- What the first block stores into the scratch buffer of numbers before anything else: `-∞` everywhere. -/
def clearV : List (View.Piece (Elt F) S64x128 .f32) :=
  [⟨Rect.unit (s := S64x128) ![0, 0] S64x128.size inb_S64x128_S64x128_0_0, shapeCast S64x128 (broadcast S64x128 (Scalar.ofBits (F := F) .f32 0xFF800000#32)) shapeCasts_S64x128_S64x128⟩]

/-- What the first block stores into the scratch buffer of words before anything else: zero everywhere. -/
def clearI : List (View.Piece (Elt F) S64x128 .i32) :=
  [⟨Rect.unit (s := S64x128) ![0, 0] S64x128.size inb_S64x128_S64x128_0_0, shapeCast S64x128 (broadcast S64x128 0#32) shapeCasts_S64x128_S64x128⟩]

/-- Accumulator `a` as the first block reads it: from what it has just stored. -/
def clearedV (arg : Memref sig .tc .vmem S64x128 .f32) (a : Nat) : FVec F S8x128 .f32 :=
  arg.view.readCov (Val := Elt F) (clearV (F := F)) (rows a).toLoadRect

/-- Accumulator `a`'s chunk numbers, read from the scratch after it has been cleared. -/
def clearedI (arg : Memref sig .tc .vmem S64x128 .i32) (a : Nat) : IVec S8x128 32 :=
  arg.view.readCov (Val := Elt F) (clearI (F := F)) (rows a).toLoadRect

/-- The largest of accumulators `0, …, n`, entry by entry. -/
def topV (V : Nat → FVec F S8x128 .f32) (n : Nat) : FVec F S8x128 .f32 :=
  Nat.rec (V 0) (fun n w => maximumf w (V (n + 1))) n

/-- The largest score of each lane. -/
def top (V : Nat → FVec F S8x128 .f32) : FVec F S1x128 .f32 :=
  shapeCast S1x128 (multiReduction .maximumf [0] S128 (topV V 7) 0xFF800000#32 reduces_S8x128_S128 (.inl rfl) rfl)
    shapeCasts_S128_S1x128

/-- The positions accumulator `a` names where it holds the largest score of the lane, and a large word elsewhere. -/
def cand (V : Nat → FVec F S8x128 .f32) (I : Nat → IVec S8x128 32) (a : Nat) : IVec S8x128 32 :=
  select (cmpf .oeq (V a) (broadcastTo S8x128 (top V) broadcasts_S1x128_S8x128))
    (addi (muli (I a) (broadcast S8x128 8#32)) (iota .tc S8x128 32 [0] iota_S8x128_d0_w32)) (broadcast S8x128 1073741824#32)

/-- The smallest of the first `n` accumulators' positions, entry by entry. -/
def bestI (V : Nat → FVec F S8x128 .f32) (I : Nat → IVec S8x128 32) (n : Nat) : IVec S8x128 32 :=
  Nat.rec (broadcast S8x128 1073741824#32) (fun a w => minsi w (cand V I a)) n

/-- The word the last block stores for each lane. -/
def pick (V : Nat → FVec F S8x128 .f32) (I : Nat → IVec S8x128 32) : IVec S1x128 32 :=
  shapeCast S1x128 (multiReductionI .minsi [0] S128 (bestI V I 8) 2147483647#32 reduces_S8x128_S128 rfl) shapeCasts_S128_S1x128

section
variable (c : Dev nD) (i : grid0.Coords) (arg1 : Memref sig .tc .vmem S10000x128 .f32) (harg1 : arg1.IsWhole)
  (arg2 : Memref sig .tc .vmem S10000x128 .f32) (harg2 : arg2.IsWhole) (arg3 : Memref sig .tc .vmem S1x128 .i32) (harg3 : arg3.IsWhole)
  (arg4 : Memref sig .tc .vmem S64x128 .f32) (harg4 : arg4.IsWhole) (arg5 : Memref sig .tc .vmem S64x128 .i32) (harg5 : arg5.IsWhole)
  (x0 x1 : Vec F S10000x128 .f32)

/-- The first block leaves in the numbers' scratch buffer its eight chains, started from the cleared buffer. -/
theorem runA_V (hc0 : cond0_0 i) (hc1 : ¬cond0_1 i) :
    (kernelRun0_A c i arg1 harg1 arg2 harg2 arg3 harg3 arg4 harg4 arg5 harg5 hc0 hc1 x0 x1).2.1 =
      storeV (endV (scores arg1 harg1 arg2 harg2 x0 x1) (clearedV arg4)) clearV := by
  sl_kernel_rfl

/-- The first block leaves in the words' scratch buffer the words of its eight chains. -/
theorem runA_I (hc0 : cond0_0 i) (hc1 : ¬cond0_1 i) :
    (kernelRun0_A c i arg1 harg1 arg2 harg2 arg3 harg3 arg4 harg4 arg5 harg5 hc0 hc1 x0 x1).2.2.1 =
      storeI (endI (scores arg1 harg1 arg2 harg2 x0 x1) (base i) (clearedV arg4) (clearedI (F := F) arg5)) clearI := by
  sl_kernel_rfl

variable (xs0 : Vec F S64x128 .f32) (xs1 : Vec F S64x128 .i32)

/-- A middle block leaves in the numbers' scratch buffer its eight chains, started from what the buffer held. -/
theorem runB_V (hc0 : ¬cond0_0 i) (hc1 : ¬cond0_1 i) :
    (kernelRun0_B c i arg1 harg1 arg2 harg2 arg3 harg3 arg4 harg4 arg5 harg5 hc0 hc1 x0 x1 xs0 xs1).2.1 =
      storeV (endV (scores arg1 harg1 arg2 harg2 x0 x1) (readV arg4 harg4 xs0)) [] := by
  sl_kernel_rfl

/-- A middle block leaves in the words' scratch buffer the words of its eight chains. -/
theorem runB_I (hc0 : ¬cond0_0 i) (hc1 : ¬cond0_1 i) :
    (kernelRun0_B c i arg1 harg1 arg2 harg2 arg3 harg3 arg4 harg4 arg5 harg5 hc0 hc1 x0 x1 xs0 xs1).2.2.1 =
      storeI (endI (scores arg1 harg1 arg2 harg2 x0 x1) (base i) (readV arg4 harg4 xs0) (readI (F := F) arg5 harg5 xs1)) [] := by
  sl_kernel_rfl

/-- The last block stores, for each lane, the smallest position among the chains that hold the largest score. -/
theorem runC_out (hc0 : ¬cond0_0 i) (hc1 : cond0_1 i) :
    (kernelRun0_C c i arg1 harg1 arg2 harg2 arg3 harg3 arg4 harg4 arg5 harg5 hc0 hc1 x0 x1 xs0 xs1).1 =
      [⟨Rect.unit (s := S1x128) ![0, 0] ![1, 128] inb_S1x128_S1x128_0_0,
        pick (endV (scores arg1 harg1 arg2 harg2 x0 x1) (readV arg4 harg4 xs0))
          (endI (scores arg1 harg1 arg2 harg2 x0 x1) (base i) (readV arg4 harg4 xs0) (readI (F := F) arg5 harg5 xs1))⟩] := by
  sl_kernel_rfl

end

end Cert.Chain
-- ==== Proof.Cells.lean ====
/- The scratch buffers and the blocks entry by entry: what the stores of one block leave at a cell, what a load of an accumulator reads,
   and which row of the block an entry of a chunk is. -/
module

public import proofs.«01_k».proof.Proof.Chain
public import Idealize.ShloMosaic.Lib.Pipeline.Value
public import Idealize.ShloMosaic.Lib.Pipeline.ValueKit.Tiles
public import Idealize.ShloMosaic.Lib.ValueIdxCore

@[expose] public section

noncomputable section

namespace Cert.Chain

open Idealize.ShloMosaic Idealize.ShloMosaic.ValueIdx
open Cert.KernelIdeal Cert.KernelIdeal.Gen

variable {F : FTy → Type} [FloatOps F]

/-- The cell of a scratch buffer that holds sublane `s` and lane `l` of accumulator `a`. -/
def cell (a : Fin 8) (s : Fin 8) (l : Fin 128) : S64x128.Idx :=
  ix2 (⟨8 * a.val + s.val, by omega⟩ : Fin 64) l

/-- Placing an entry of accumulator `a` in the buffer gives its cell. -/
theorem rows_emb (a : Fin 8) (s : Fin 8) (l : Fin 128) :
    (rows a.val).emb (show (rows a.val).shape.Idx from ix2 s l) = cell a s l := by
  have ha := a.isLt
  funext x
  apply Fin.ext
  match x with
  | ⟨0, _⟩ =>
    show 8 * (a.val % 8) + 1 * s.val = 8 * a.val + s.val
    omega
  | ⟨1, _⟩ =>
    show 0 + 1 * l.val = l.val
    omega

/-- A cell lies in the rows of its own accumulator and of no other. -/
theorem cell_not_mem {a b : Fin 8} (h : b ≠ a) (s : Fin 8) (l : Fin 128) : cell b s l ∉ (rows a.val).set := by
  intro hm
  have h0 := (Rect.mem_set_unit.mp hm) (0 : Fin 2)
  have h1 : 8 * (a.val % 8) ≤ 8 * b.val + s.val ∧ 8 * b.val + s.val < 8 * (a.val % 8) + 8 := h0
  have ha := a.isLt
  exact h (Fin.ext (by omega))

/-- A store of accumulator `a` on top of earlier ones, read at a cell: the stored value at the accumulator's own cells, the earlier
    contents at the others. -/
theorem canon_store {e : EltTy} (a b s : Fin 8) (l : Fin 128) (w : S8x128.Idx → Elt F e) (L : List (View.Piece (Elt F) S64x128 e)) :
    View.canon ((⟨rows a.val, w⟩ : View.Piece (Elt F) S64x128 e) :: L) (cell b s l)
      = if a = b then w (ix2 s l) else View.canon L (cell b s l) := by
  by_cases h : a = b
  · subst h
    rw [if_pos rfl, ← rows_emb]
    exact View.canon_cons_emb (Val := Elt F) (rows a.val) w L _
  · rw [if_neg h]
    exact View.canon_cons_of_not_mem _ _ (cell_not_mem (fun hh => h hh.symm) s l)

/-- The stores of the first `n` accumulators, the last one first, on top of earlier ones. -/
def stack {e : EltTy} (w : Nat → S8x128.Idx → Elt F e) (L : List (View.Piece (Elt F) S64x128 e)) (n : Nat) :
    List (View.Piece (Elt F) S64x128 e) :=
  Nat.rec L (fun a M => (⟨rows a, w a⟩ : View.Piece (Elt F) S64x128 e) :: M) n

/-- After the stores of the first `n` accumulators a cell of one of them holds its entry. -/
theorem stack_cell {e : EltTy} (w : Nat → S8x128.Idx → Elt F e) (L : List (View.Piece (Elt F) S64x128 e)) (b s : Fin 8) (l : Fin 128) :
    ∀ n ≤ 8, b.val < n → View.canon (stack w L n) (cell b s l) = w b.val (ix2 s l)
  | 0, _, h => absurd h (Nat.not_lt_zero _)
  | n + 1, hn, h => by
    refine (canon_store (⟨n, by omega⟩ : Fin 8) b s l (w n) (stack w L n)).trans ?_
    by_cases he : (⟨n, by omega⟩ : Fin 8) = b
    · rw [if_pos he, ← he]
    · rw [if_neg he]
      refine stack_cell w L b s l n (by omega) ?_
      have : n ≠ b.val := fun hh => he (Fin.ext hh)
      omega

/-- After the eight stores of a block each cell of the numbers' buffer holds its accumulator's entry. -/
theorem storeV_cell (w : Nat → FVec F S8x128 .f32) (L : List (View.Piece (Elt F) S64x128 .f32)) (b s : Fin 8) (l : Fin 128) :
    View.canon (storeV w L) (cell b s l) = w b.val (ix2 s l) :=
  (stack_cell (e := .f32) (fun a => shapeCast S8x128 (w a) shapeCasts_S8x128_S8x128) L b s l 8 le_rfl b.isLt).trans
    (congrFun (shapeCast_self _ _) _)

/-- The same for the words' buffer. -/
theorem storeI_cell (w : Nat → IVec S8x128 32) (L : List (View.Piece (Elt F) S64x128 .i32)) (b s : Fin 8) (l : Fin 128) :
    View.canon (storeI w L) (cell b s l) = w b.val (ix2 s l) :=
  (stack_cell (e := .i32) (fun a => shapeCast S8x128 (w a) shapeCasts_S8x128_S8x128) L b s l 8 le_rfl b.isLt).trans
    (congrFun (shapeCast_self _ _) _)

/-- Loading accumulator `a` from a buffer that holds `x` reads `x` at the accumulator's cells. -/
theorem load_cell {e : EltTy} (arg : Memref sig .tc .vmem S64x128 e) (harg : arg.IsWhole) (x : Vec F S64x128 e) (a s : Fin 8) (l : Fin 128) :
    View.readAt (Elt F) arg.view (rows a.val).toLoadRect (harg.unread x) (show (rows a.val).shape.Idx from ix2 s l) = x (cell a s l) :=
  (congrFun (harg.read_unread x) _).trans (congrArg x (rows_emb a s l))

/-- Loading an accumulator of numbers. -/
theorem readV_cell (arg : Memref sig .tc .vmem S64x128 .f32) (harg : arg.IsWhole) (x : Vec F S64x128 .f32) (a s : Fin 8) (l : Fin 128) :
    readV arg harg x a.val (ix2 s l) = x (cell a s l) :=
  load_cell arg harg x a s l

/-- Loading an accumulator's words. -/
theorem readI_cell (arg : Memref sig .tc .vmem S64x128 .i32) (harg : arg.IsWhole) (x : Vec F S64x128 .i32) (a s : Fin 8) (l : Fin 128) :
    readI (F := F) arg harg x a.val (ix2 s l) = x (cell a s l) :=
  load_cell (F := F) arg harg x a s l

/-- A load after the whole buffer was stored with one value everywhere reads that value. -/
theorem cleared_cell {e : EltTy} (arg : Memref sig .tc .vmem S64x128 e) (v : Elt F e) (a s : Fin 8) (l : Fin 128) :
    arg.view.readCov (Val := Elt F) [(⟨Rect.unit (s := S64x128) ![0, 0] S64x128.size inb_S64x128_S64x128_0_0,
        shapeCast S64x128 (fun _ => v) shapeCasts_S64x128_S64x128⟩ : View.Piece (Elt F) S64x128 e)] (rows a.val).toLoadRect
      (show (rows a.val).shape.Idx from ix2 s l) = v := by
  rw [View.readCov_eq_canon', shapeCast_self]
  exact congrFun (View.canon_cons_unit_zero (Val := Elt F) (S := S64x128) (by funext x; fin_cases x <;> rfl) inb_S64x128_S64x128_0_0
    (fun _ => v) []) _

/-- Loading accumulator `a` after the buffer was cleared reads `-∞`. -/
theorem clearedV_cell (arg : Memref sig .tc .vmem S64x128 .f32) (a s : Fin 8) (l : Fin 128) :
    clearedV (F := F) arg a.val (ix2 s l) = Scalar.ofBits (F := F) .f32 0xFF800000#32 :=
  cleared_cell (e := .f32) arg _ a s l

/-- Loading a word of accumulator `a` after the buffer was cleared reads zero. -/
theorem clearedI_cell (arg : Memref sig .tc .vmem S64x128 .i32) (a s : Fin 8) (l : Fin 128) :
    clearedI (F := F) arg a.val (ix2 s l) = 0#32 :=
  cleared_cell (F := F) (e := .i32) arg _ a s l

/-- Entry `(s, l)` of chunk `k` is row `8 k + s` of the block. -/
theorem chunk_cell (arg : Memref sig .tc .vmem S10000x128 .f32) (harg : arg.IsWhole) (x : Vec F S10000x128 .f32) (k : Nat) (hk : k < 1250)
    (s : Fin 8) (l : Fin 128) : chunk arg harg x k (ix2 s l) = x (ix2 (⟨8 * k + s.val, by omega⟩ : Fin 10000) l) := by
  refine (congrFun (harg.read_unread x) _).trans (congrArg x ?_)
  funext a
  apply Fin.ext
  match a with
  | ⟨0, _⟩ =>
    show 8 * (k % 1250) + 1 * s.val = 8 * k + s.val
    omega
  | ⟨1, _⟩ =>
    show 0 + 1 * l.val = l.val
    omega

end Cert.Chain

end
-- ==== Proof.Scan.lean ====
/-
  The mathematics of the kernel's arg-max, about sequences of extended reals alone; no program is named here.

  A row of scores is a sequence `X : ℕ → EReal`, of which the first 100000 terms count. `IsFirstMax X N J` says that `J` is
  the FIRST position of the largest of `X 0 … X (N-1)`. The row is cut into chunks of 8 positions, 1250 chunks to a block. One
  of 64 accumulators `(a, s)` looks at position `s` of those chunks whose number within their block is `a` modulo 8, in
  increasing order, and keeps the largest value seen and the number of the chunk that it first met it in (`Best`). `first_of_best`
  joins the 64 of them: the least candidate among the accumulators that hold the overall maximum is the first position of it.
-/
module

public import Idealize.ShloMosaic.PureOps.Ideal.Laws

@[expose] public section

namespace Cert.Scan

/-- `J` is the first position of the largest of the first `N` terms of `X`. -/
structure IsFirstMax (X : ℕ → EReal) (N J : ℕ) : Prop where
  lt : J < N
  le : ∀ j < N, X j ≤ X J
  first : ∀ j < J, X j < X J

/-- There is only one such position. -/
theorem IsFirstMax.unique {X : ℕ → EReal} {N J J' : ℕ} (h : IsFirstMax X N J) (h' : IsFirstMax X N J') : J = J' := by
  rcases lt_trichotomy J J' with hlt | heq | hgt
  · exact absurd (h.le J' h'.lt) (not_le.mpr (h'.first J hlt))
  · exact heq
  · exact absurd (h'.le J h.lt) (not_le.mpr (h.first J' hgt))

/-- The positions that accumulator `(a, s)` has looked at when the chunks below number `B` are done. -/
def Vis (a s B : ℕ) : Set ℕ := {j | j % 8 = s ∧ (j / 8 % 1250) % 8 = a ∧ j / 8 < B}

/-- What an accumulator at sublane `s` that holds the value `v` and the chunk number `i` knows of the positions in `S`. -/
structure Best (X : ℕ → EReal) (S : Set ℕ) (s : ℕ) (v : EReal) (i : ℕ) : Prop where
  le : ∀ j ∈ S, X j ≤ v
  hit : (v = ⊥ ∧ i = 0) ∨ (⊥ < v ∧ 8 * i + s ∈ S ∧ X (8 * i + s) = v ∧ ∀ j ∈ S, j < 8 * i + s → X j < v)

/-- Before anything is looked at, minus infinity and chunk 0. -/
theorem Best.start (X : ℕ → EReal) {S : Set ℕ} (hS : ∀ j, j ∉ S) (s : ℕ) : Best X S s ⊥ 0 :=
  ⟨fun j hj => absurd hj (hS j), Or.inl ⟨rfl, rfl⟩⟩

/-- One position more, later than all before: replace value and chunk number where the new value is strictly larger. -/
theorem Best.step {X : ℕ → EReal} {S S' : Set ℕ} {s : ℕ} {v : EReal} {i : ℕ} (h : Best X S s v i) (k : ℕ)
    (hS' : ∀ j, j ∈ S' ↔ j ∈ S ∨ j = 8 * k + s) (hlast : ∀ j ∈ S, j < 8 * k + s) :
    Best X S' s (if v < X (8 * k + s) then X (8 * k + s) else v) (if v < X (8 * k + s) then k else i) := by
  by_cases hc : v < X (8 * k + s)
  · rw [if_pos hc, if_pos hc]
    refine ⟨fun j hj => ?_, Or.inr ⟨bot_le.trans_lt hc, (hS' _).mpr (Or.inr rfl), rfl, fun j hj hlt => ?_⟩⟩
    · rcases (hS' j).mp hj with hj | rfl
      · exact ((h.le j hj).trans_lt hc).le
      · exact le_rfl
    · rcases (hS' j).mp hj with hj | rfl
      · exact (h.le j hj).trans_lt hc
      · exact absurd hlt (lt_irrefl _)
  · rw [if_neg hc, if_neg hc]
    refine ⟨fun j hj => ?_, ?_⟩
    · rcases (hS' j).mp hj with hj | rfl
      · exact h.le j hj
      · exact not_lt.mp hc
    · rcases h.hit with h0 | ⟨h1, h2, h3, h4⟩
      · exact Or.inl h0
      · refine Or.inr ⟨h1, (hS' _).mpr (Or.inl h2), h3, fun j hj hlt => ?_⟩
        rcases (hS' j).mp hj with hj | rfl
        · exact h4 j hj hlt
        · exact absurd (hlast _ h2) (by omega)

/-- The knowledge depends on the set only through its members. -/
theorem Best.congr {X : ℕ → EReal} {S S' : Set ℕ} {s : ℕ} {v : EReal} {i : ℕ} (h : Best X S s v i)
    (hS : ∀ j, j ∈ S' ↔ j ∈ S) : Best X S' s v i := by
  rw [show S' = S from Set.ext hS]; exact h

/-- THE JOIN. All 64 accumulators have seen all their positions below 100000, `m` bounds their values, and `r` is the least
    candidate `8 i + s` among those accumulators whose value is `m`: then `r` is the first maximum of the row. -/
theorem first_of_best {X : ℕ → EReal} {V : ℕ → ℕ → EReal} {I : ℕ → ℕ → ℕ}
    (hb : ∀ a < 8, ∀ s < 8, Best X (Vis a s 12500) s (V a s) (I a s)) {m : EReal} {r : ℕ}
    (hm : ∀ a < 8, ∀ s < 8, V a s ≤ m)
    (hr : ∃ a < 8, ∃ s < 8, V a s = m ∧ r = 8 * I a s + s)
    (hmin : ∀ a < 8, ∀ s < 8, V a s = m → r ≤ 8 * I a s + s) : IsFirstMax X 100000 r := by
  have mem : ∀ j < 100000, ∃ a < 8, ∃ s < 8, j ∈ Vis a s 12500 := fun j hj =>
    ⟨j / 8 % 1250 % 8, by omega, j % 8, by omega, by refine ⟨rfl, rfl, ?_⟩; omega⟩
  have bound : ∀ j < 100000, X j ≤ m := fun j hj => by
    obtain ⟨a, ha, s, hs, hjs⟩ := mem j hj
    exact ((hb a ha s hs).le j hjs).trans (hm a ha s hs)
  by_cases hbot : m = ⊥
  · subst hbot
    have hV : V 0 0 = ⊥ := le_bot_iff.mp (hm 0 (by omega) 0 (by omega))
    have hI : I 0 0 = 0 := by
      rcases (hb 0 (by omega) 0 (by omega)).hit with h | h
      · exact h.2
      · exact absurd h.1 (by rw [hV]; exact lt_irrefl _)
    have : r ≤ 8 * I 0 0 + 0 := hmin 0 (by omega) 0 (by omega) hV
    obtain rfl : r = 0 := by omega
    exact ⟨by omega, fun j hj => by rw [le_bot_iff.mp (bound j hj)]; exact bot_le, fun j hj => absurd hj (by omega)⟩
  · obtain ⟨a, ha, s, hs, hv, hrE⟩ := hr
    rcases (hb a ha s hs).hit with h | ⟨-, h2, h3, -⟩
    · exact absurd (hv.symm.trans h.1) hbot
    rw [← hrE] at h2 h3
    have hrN : r < 100000 := by have := h2.2.2; omega
    refine ⟨hrN, fun j hj => by rw [h3, hv]; exact bound j hj, fun j hj => ?_⟩
    rw [h3, hv]
    refine lt_of_le_of_ne (bound j (hj.trans hrN)) fun he => ?_
    obtain ⟨a', ha', s', hs', hjs⟩ := mem j (hj.trans hrN)
    have hV' : V a' s' = m := le_antisymm (hm a' ha' s' hs') (he ▸ (hb a' ha' s' hs').le j hjs)
    rcases (hb a' ha' s' hs').hit with h | ⟨-, -, -, h4⟩
    · exact hbot (hV'.symm.trans h.1)
    · have := h4 j hjs (lt_of_lt_of_le hj (hmin a' ha' s' hs' hV'))
      rw [he, hV'] at this
      exact lt_irrefl _ this

end Cert.Scan

end
-- ==== Proof.Blocks.lean ====
/- What the accumulators know after each block, over the extended reals. -/
module

public import proofs.«01_k».proof.Proof.Cells
public import proofs.«01_k».proof.Proof.Scan
public import Idealize.ShloMosaic.PureOps.Ideal.Laws

@[expose] public section

noncomputable section

namespace Cert.Chain

open Idealize.ShloMosaic Idealize.ShloMosaic.ValueIdx Idealize.ShloMosaic.Tactic
open Cert.KernelIdeal Cert.KernelIdeal.Gen Cert.Scan

/-- Accumulator `(a, s)`'s value `v` and word `w` are the best of the positions it looked at among the first `B` chunks. -/
def Knows (X : Nat → EReal) (a s B : Nat) (v : EReal) (w : BitVec 32) : Prop :=
  ∃ i < 12500, w = BitVec.ofNat 32 i ∧ Best X (Vis a s B) s v i

/-- The score of one entry: its logit less the logarithm of minus the logarithm of its uniform number. -/
def gum (l u : EReal) : EReal :=
  FloatOps.subf (F := Ideal) (φ := .f32) l (FloatOps.log (F := Ideal) (φ := .f32) (FloatOps.subf (F := Ideal) (φ := .f32) (tiny (F := Ideal))
    (FloatOps.log (F := Ideal) (φ := .f32) (FloatOps.addf (F := Ideal) (φ := .f32) u (tiny (F := Ideal))))))

/-- The offsets of a store of the whole result block. -/
theorem zero_off : (![0, 0] : Fin S1x128.rank → Nat) = fun _ => 0 := by
  funext x
  match x with
  | ⟨0, _⟩ => rfl
  | ⟨1, _⟩ => rfl

/-- A chunk's scores entry by entry. -/
theorem score_cell (l u : FVec Ideal S8x128 .f32) (x : S8x128.Idx) : score l u x = gum (l x) (u x) := by
  unfold score
  rw [shapeCast_self, shapeCast_self]
  rfl

/-- One step of a chain on one entry: the larger value. -/
theorem chainV_succ (X : Nat → FVec Ideal S8x128 .f32) (a : Nat) (v : FVec Ideal S8x128 .f32) (n : Nat) (x : S8x128.Idx) :
    chainV X a v (n + 1) x = if (chainV X a v n x : EReal) < X (8 * n + a) x then X (8 * n + a) x else chainV X a v n x := by
  show select (cmpf .ogt (X (8 * n + a)) (chainV X a v n)) (X (8 * n + a)) (chainV X a v n) x = _
  rw [select_apply, cmpf_apply]
  by_cases h : (chainV X a v n x : EReal) < X (8 * n + a) x <;> simp [Ideal.cmpf_def, Ideal.cmp, Scalar.select, h]

/-- One step of a chain on one entry: the word that goes with the larger value. -/
theorem chainI_succ (X : Nat → FVec Ideal S8x128 .f32) (b : BitVec 32) (a : Nat) (v : FVec Ideal S8x128 .f32) (j : IVec S8x128 32)
    (n : Nat) (x : S8x128.Idx) :
    chainI X b a v j (n + 1) x = if (chainV X a v n x : EReal) < X (8 * n + a) x then b + BitVec.ofNat 32 (8 * n + a) else chainI X b a v j n x := by
  show select (cmpf .ogt (X (8 * n + a)) (chainV X a v n)) (broadcast S8x128 (Scalar.addi b (BitVec.ofNat 32 (8 * n + a)))) (chainI X b a v j n) x = _
  rw [select_apply, cmpf_apply]
  by_cases h : (chainV X a v n x : EReal) < X (8 * n + a) x <;> simp [Ideal.cmpf_def, Ideal.cmp, Scalar.select, h, Scalar.addi, broadcast_apply, IntOp.addi]

/-- One step more of a chain adds one position to those its accumulator looked at. -/
theorem vis_succ {t n a s : Nat} (hk : 8 * n + a < 1250) (ha : a < 8) (hs : s < 8) (p : Nat) :
    p ∈ Vis a s (1250 * t + min (8 * (n + 1) + a) 1250) ↔
      p ∈ Vis a s (1250 * t + min (8 * n + a) 1250) ∨ p = 8 * (1250 * t + (8 * n + a)) + s := by
  obtain ⟨M, hM⟩ : ∃ M, M = min (8 * (n + 1) + a) 1250 := ⟨_, rfl⟩
  rw [min_eq_left hk.le, ← hM]
  have h1 : M ≤ 8 * (n + 1) + a := hM ▸ min_le_left _ _
  have h2 : M ≤ 1250 := hM ▸ min_le_right _ _
  have h3 : 8 * n + a < M := hM ▸ lt_min (by omega) hk
  clear hM
  simp only [Vis, Set.mem_setOf_eq]
  constructor
  · rintro ⟨q1, q2, q3⟩
    by_cases q4 : p / 8 < 1250 * t + (8 * n + a)
    · exact Or.inl ⟨q1, q2, q4⟩
    · obtain ⟨r, hr⟩ : ∃ r, p / 8 = 1250 * t + r := ⟨p / 8 - 1250 * t, by omega⟩
      have hmod : p / 8 % 1250 = r := by omega
      rw [hmod] at q2
      omega
  · rintro (⟨q1, q2, q3⟩ | rfl)
    · exact ⟨q1, q2, by omega⟩
    · have e : (8 * (1250 * t + (8 * n + a)) + s) / 8 = 1250 * t + (8 * n + a) := by omega
      refine ⟨by omega, ?_, by omega⟩
      rw [e, Nat.mul_add_mod, Nat.mod_eq_of_lt hk]
      omega

/-- A chain of block `t` keeps the knowledge of its accumulator: after `n` steps the first `8 n + a` chunks of the block are done. -/
theorem chain_knows (X : Nat → FVec Ideal S8x128 .f32) (Y : Nat → EReal) (t : Nat) (ht : t < 10) (b : BitVec 32)
    (hb : b = BitVec.ofNat 32 (1250 * t)) (a s : Fin 8) (l : Fin 128)
    (hX : ∀ k < 1250, X k (ix2 s l) = Y (8 * (1250 * t + k) + s.val)) (v : FVec Ideal S8x128 .f32) (j : IVec S8x128 32)
    (h : Knows Y a.val s.val (1250 * t) (v (ix2 s l)) (j (ix2 s l))) :
    ∀ n ≤ cnt a.val, Knows Y a.val s.val (1250 * t + min (8 * n + a.val) 1250) (chainV X a.val v n (ix2 s l))
      (chainI X b a.val v j n (ix2 s l))
  | 0, _ => by
    obtain ⟨i, hi, hw, hB⟩ := h
    refine ⟨i, hi, hw, hB.congr fun p => ?_⟩
    have := a.isLt
    simp only [Vis, Set.mem_setOf_eq]
    omega
  | n + 1, hn => by
    obtain ⟨i, hi, hw, hB⟩ := chain_knows X Y t ht b hb a s l hX v j h n (by omega)
    have hk : 8 * n + a.val < 1250 := by unfold cnt at hn; omega
    have ha := a.isLt
    have hs := s.isLt
    rw [chainV_succ, chainI_succ, hX _ hk]
    refine ⟨if (chainV X a.val v n (ix2 s l) : EReal) < Y (8 * (1250 * t + (8 * n + a.val)) + s.val) then 1250 * t + (8 * n + a.val) else i, ?_, ?_,
      hB.step (1250 * t + (8 * n + a.val)) (fun p => ?_) (fun p hp => ?_)⟩
    · split <;> omega
    · split
      · rw [hb, ← BitVec.ofNat_add]
      · exact hw
    · exact vis_succ hk ha hs p
    · simp only [Vis, Set.mem_setOf_eq] at hp
      omega

/-- At the end of a block all its chunks are done. -/
theorem end_knows (X : Nat → FVec Ideal S8x128 .f32) (Y : Nat → EReal) (t : Nat) (ht : t < 10) (b : BitVec 32)
    (hb : b = BitVec.ofNat 32 (1250 * t)) (a s : Fin 8) (l : Fin 128)
    (hX : ∀ k < 1250, X k (ix2 s l) = Y (8 * (1250 * t + k) + s.val)) (v : Nat → FVec Ideal S8x128 .f32) (j : Nat → IVec S8x128 32)
    (h : Knows Y a.val s.val (1250 * t) (v a.val (ix2 s l)) (j a.val (ix2 s l))) :
    Knows Y a.val s.val (1250 * (t + 1)) (endV X v a.val (ix2 s l)) (endI X b v j a.val (ix2 s l)) := by
  have e := chain_knows X Y t ht b hb a s l hX (v a.val) (j a.val) h (cnt a.val) le_rfl
  have : 1250 * t + min (8 * cnt a.val + a.val) 1250 = 1250 * (t + 1) := by
    have := a.isLt
    unfold cnt
    omega
  rw [this] at e
  exact e

section
variable (c : Dev nD) (i : grid0.Coords) (arg1 : Memref sig .tc .vmem S10000x128 .f32) (harg1 : arg1.IsWhole)
  (arg2 : Memref sig .tc .vmem S10000x128 .f32) (harg2 : arg2.IsWhole) (arg3 : Memref sig .tc .vmem S1x128 .i32) (harg3 : arg3.IsWhole)
  (arg4 : Memref sig .tc .vmem S64x128 .f32) (harg4 : arg4.IsWhole) (arg5 : Memref sig .tc .vmem S64x128 .i32) (harg5 : arg5.IsWhole)
  (x0 x1 : Vec Ideal S10000x128 .f32)

/-- The numbers' buffer as the first block leaves it. -/
theorem out_A_V (hc0 : cond0_0 i) (hc1 : ¬cond0_1 i) :
    sout0_A_0 c i arg1 harg1 arg2 harg2 arg3 harg3 arg4 harg4 arg5 harg5 hc0 hc1 x0 x1 =
      View.canon (storeV (endV (scores arg1 harg1 arg2 harg2 x0 x1) (clearedV (F := Ideal) arg4)) (clearV (F := Ideal))) := by
  refine (View.read_writes_eq_canon _ _ _ (scover0_A_0 c i arg1 harg1 arg2 harg2 arg3 harg3 arg4 harg4 arg5 harg5 hc0 hc1 x0 x1)).trans ?_
  rw [runA_V]

/-- The words' buffer as the first block leaves it. -/
theorem out_A_I (hc0 : cond0_0 i) (hc1 : ¬cond0_1 i) :
    sout0_A_1 c i arg1 harg1 arg2 harg2 arg3 harg3 arg4 harg4 arg5 harg5 hc0 hc1 x0 x1 =
      View.canon (storeI (endI (scores arg1 harg1 arg2 harg2 x0 x1) (base i) (clearedV (F := Ideal) arg4) (clearedI (F := Ideal) arg5))
        (clearI (F := Ideal))) := by
  refine (View.read_writes_eq_canon _ _ _ (scover0_A_1 c i arg1 harg1 arg2 harg2 arg3 harg3 arg4 harg4 arg5 harg5 hc0 hc1 x0 x1)).trans ?_
  rw [runA_I]

variable (xs0 : Vec Ideal S64x128 .f32) (xs1 : Vec Ideal S64x128 .i32)

/-- The numbers' buffer as a middle block leaves it. -/
theorem out_B_V (hc0 : ¬cond0_0 i) (hc1 : ¬cond0_1 i) :
    sout0_B_0 c i arg1 harg1 arg2 harg2 arg3 harg3 arg4 harg4 arg5 harg5 hc0 hc1 x0 x1 xs0 xs1 =
      View.canon (storeV (endV (scores arg1 harg1 arg2 harg2 x0 x1) (readV (F := Ideal) arg4 harg4 xs0)) []) := by
  refine (View.read_writes_eq_canon _ _ _ (scover0_B_0 c i arg1 harg1 arg2 harg2 arg3 harg3 arg4 harg4 arg5 harg5 hc0 hc1 x0 x1 xs0 xs1)).trans ?_
  rw [runB_V]

/-- The words' buffer as a middle block leaves it. -/
theorem out_B_I (hc0 : ¬cond0_0 i) (hc1 : ¬cond0_1 i) :
    sout0_B_1 c i arg1 harg1 arg2 harg2 arg3 harg3 arg4 harg4 arg5 harg5 hc0 hc1 x0 x1 xs0 xs1 =
      View.canon (storeI (endI (scores arg1 harg1 arg2 harg2 x0 x1) (base i) (readV (F := Ideal) arg4 harg4 xs0)
        (readI (F := Ideal) arg5 harg5 xs1)) []) := by
  refine (View.read_writes_eq_canon _ _ _ (scover0_B_1 c i arg1 harg1 arg2 harg2 arg3 harg3 arg4 harg4 arg5 harg5 hc0 hc1 x0 x1 xs0 xs1)).trans ?_
  rw [runB_I]

/-- What the last block's store leaves in the result's block: the picked words. -/
theorem out_C (hc0 : ¬cond0_0 i) (hc1 : cond0_1 i) :
    out0_C_2 c i arg1 harg1 arg2 harg2 arg3 harg3 arg4 harg4 arg5 harg5 hc0 hc1 x0 x1 xs0 xs1 =
      pick (endV (scores arg1 harg1 arg2 harg2 x0 x1) (readV arg4 harg4 xs0))
        (endI (scores arg1 harg1 arg2 harg2 x0 x1) (base i) (readV arg4 harg4 xs0) (readI (F := Ideal) arg5 harg5 xs1)) := by
  refine (View.read_writes_eq_canon _ _ _ (cover0_C_2 c i arg1 harg1 arg2 harg2 arg3 harg3 arg4 harg4 arg5 harg5 hc0 hc1 x0 x1 xs0 xs1)).trans ?_
  rw [runC_out]
  exact View.canon_cons_unit_zero (Val := Elt Ideal) (S := S1x128) zero_off inb_S1x128_S1x128_0_0 _ []

end

variable (m : (ℓ : Loc nD τ sig) → Buf (Elt Ideal) ℓ)

/-- The numbers' buffer after the first block. -/
theorem left_A_V (c : Dev nD) (t : Fin cfg0.N) (h0 : t.val % 10 = 0) (h1 : ¬t.val % 10 = 9) :
    (outsAt0 m c t.val t.isLt).2.1 = View.canon (storeV (endV (scores (ms0_0 t) (hs0_0 t) (ms0_1 t) (hs0_1 t) (iblk m c 0 t) (iblk m c 1 t))
      (clearedV (F := Ideal) scM0_0)) (clearV (F := Ideal))) := by
  rw [outsAt0_A m c t h0 h1]
  exact out_A_V c (grid0.coords t) _ _ _ _ (ms0_2 t) (hs0_2 t) _ (Memref.isWhole_whole _) scM0_1 (Memref.isWhole_whole _) _ _ ((hcond0_0 t).mpr h0) (fun h => h1 ((hcond0_1 t).mp h))

/-- The words' buffer after the first block. -/
theorem left_A_I (c : Dev nD) (t : Fin cfg0.N) (h0 : t.val % 10 = 0) (h1 : ¬t.val % 10 = 9) :
    (outsAt0 m c t.val t.isLt).2.2 = View.canon (storeI (endI (scores (ms0_0 t) (hs0_0 t) (ms0_1 t) (hs0_1 t) (iblk m c 0 t) (iblk m c 1 t))
      (base (grid0.coords t)) (clearedV (F := Ideal) scM0_0) (clearedI (F := Ideal) scM0_1)) (clearI (F := Ideal))) := by
  rw [outsAt0_A m c t h0 h1]
  exact out_A_I c (grid0.coords t) _ _ _ _ (ms0_2 t) (hs0_2 t) _ (Memref.isWhole_whole _) scM0_1 (Memref.isWhole_whole _) _ _ ((hcond0_0 t).mpr h0) (fun h => h1 ((hcond0_1 t).mp h))

/-- The numbers' buffer after a middle block. -/
theorem left_B_V (c : Dev nD) (t : Fin cfg0.N) (h0 : ¬t.val % 10 = 0) (h1 : ¬t.val % 10 = 9) :
    (outsAt0 m c t.val t.isLt).2.1 = View.canon (storeV (endV (scores (ms0_0 t) (hs0_0 t) (ms0_1 t) (hs0_1 t) (iblk m c 0 t) (iblk m c 1 t))
      (readV (F := Ideal) scM0_0 (Memref.isWhole_whole _) (outsAt0 m c (t.val - 1) (Nat.lt_of_le_of_lt (Nat.sub_le _ _) t.isLt)).2.1)) []) := by
  rw [outsAt0_B m c t h0 h1]
  exact out_B_V c (grid0.coords t) _ _ _ _ (ms0_2 t) (hs0_2 t) _ (Memref.isWhole_whole _) scM0_1 (Memref.isWhole_whole _) _ _ _ (outsAt0 m c (t.val - 1) (Nat.lt_of_le_of_lt (Nat.sub_le _ _) t.isLt)).2.2 (fun h => h0 ((hcond0_0 t).mp h)) (fun h => h1 ((hcond0_1 t).mp h))

/-- The words' buffer after a middle block. -/
theorem left_B_I (c : Dev nD) (t : Fin cfg0.N) (h0 : ¬t.val % 10 = 0) (h1 : ¬t.val % 10 = 9) :
    (outsAt0 m c t.val t.isLt).2.2 = View.canon (storeI (endI (scores (ms0_0 t) (hs0_0 t) (ms0_1 t) (hs0_1 t) (iblk m c 0 t) (iblk m c 1 t))
      (base (grid0.coords t))
      (readV (F := Ideal) scM0_0 (Memref.isWhole_whole _) (outsAt0 m c (t.val - 1) (Nat.lt_of_le_of_lt (Nat.sub_le _ _) t.isLt)).2.1)
      (readI (F := Ideal) scM0_1 (Memref.isWhole_whole _) (outsAt0 m c (t.val - 1) (Nat.lt_of_le_of_lt (Nat.sub_le _ _) t.isLt)).2.2)) []) := by
  rw [outsAt0_B m c t h0 h1]
  exact out_B_I c (grid0.coords t) _ _ _ _ (ms0_2 t) (hs0_2 t) _ (Memref.isWhole_whole _) scM0_1 (Memref.isWhole_whole _) _ _ _ (outsAt0 m c (t.val - 1) (Nat.lt_of_le_of_lt (Nat.sub_le _ _) t.isLt)).2.2 (fun h => h0 ((hcond0_0 t).mp h)) (fun h => h1 ((hcond0_1 t).mp h))

/-- The result's block after the last block. -/
theorem left_C (c : Dev nD) (t : Fin cfg0.N) (h0 : ¬t.val % 10 = 0) (h1 : t.val % 10 = 9) :
    (outsAt0 m c t.val t.isLt).1 = pick
      (endV (scores (ms0_0 t) (hs0_0 t) (ms0_1 t) (hs0_1 t) (iblk m c 0 t) (iblk m c 1 t))
        (readV (F := Ideal) scM0_0 (Memref.isWhole_whole _) (outsAt0 m c (t.val - 1) (Nat.lt_of_le_of_lt (Nat.sub_le _ _) t.isLt)).2.1))
      (endI (scores (ms0_0 t) (hs0_0 t) (ms0_1 t) (hs0_1 t) (iblk m c 0 t) (iblk m c 1 t)) (base (grid0.coords t))
        (readV (F := Ideal) scM0_0 (Memref.isWhole_whole _) (outsAt0 m c (t.val - 1) (Nat.lt_of_le_of_lt (Nat.sub_le _ _) t.isLt)).2.1)
        (readI (F := Ideal) scM0_1 (Memref.isWhole_whole _) (outsAt0 m c (t.val - 1) (Nat.lt_of_le_of_lt (Nat.sub_le _ _) t.isLt)).2.2)) := by
  rw [outsAt0_C m c t h0 h1]
  exact out_C c (grid0.coords t) _ _ _ _ (ms0_2 t) (hs0_2 t) _ _ _ _ _ _ _ _ (fun h => h0 ((hcond0_0 t).mp h)) ((hcond0_1 t).mpr h1)

end Cert.Chain

end
-- ==== Proof.Sweep.lean ====
/- What the accumulators know after each block of the grid, from the arrays the kernel was launched with. -/
module

public import proofs.«01_k».proof.Proof.Blocks
public import Idealize.ShloMosaic.Lib.Pipeline.Value
public import Idealize.ShloMosaic.Lib.StableHlo.Run

@[expose] public section

noncomputable section

namespace Cert.Chain

open Idealize.ShloMosaic Idealize.ShloMosaic.ValueIdx Idealize.ShloMosaic.TcCoe Idealize.ShloMosaic.StableHlo
open Cert.KernelIdeal Cert.KernelIdeal.Gen Cert.Scan

variable (m : (ℓ : Loc nD τ sig) → Buf (Elt Ideal) ℓ)

/-- The logits as launched. -/
def logits (c : Dev nD) : FVec Ideal S128x100000 .f32 := m ((c : Thread nD τ).loc main_arg0)

/-- The uniform numbers as launched. -/
def uniforms (c : Dev nD) : FVec Ideal S128x100000 .f32 := m ((c : Thread nD τ).loc main_arg1)

/-- The scores of row `l`; past the last column the least value. -/
def scoreRow (c : Dev nD) (l : Fin 128) (n : Nat) : EReal :=
  if h : n < 100000 then gum (logits m c (ix2 l ⟨n, h⟩)) (uniforms m c (ix2 l ⟨n, h⟩)) else ⊥

/-- The first staged array is the logits transposed. -/
theorem staged0 (c : Dev nD) : V m c main_v0 = transpose S100000x128 [1, 0] (logits m c) transposes_S128x100000_S100000x128_1_0 := by
  unfold logits V V0
  simp only [hostOps0, List.flatten_cons, List.flatten_nil, List.append_nil]
  after_results_simp

/-- The second staged array is the uniform numbers transposed. -/
theorem staged1 (c : Dev nD) : V m c main_v1 = transpose S100000x128 [1, 0] (uniforms m c) transposes_S128x100000_S100000x128_1_0 := by
  unfold uniforms V V0
  simp only [hostOps0, List.flatten_cons, List.flatten_nil, List.append_nil]
  after_results_simp

/-- A transposed array read at `(n, l)` is the array at `(l, n)`. -/
theorem flip_cell (x : FVec Ideal S128x100000 .f32) (n : Fin 100000) (l : Fin 128) :
    transpose S100000x128 [1, 0] x transposes_S128x100000_S100000x128_1_0 (ix2 n l) = x (ix2 l n) :=
  transpose_apply [1, 0] x _ (ix2 n l) (ix2 l n) fun b => match b with
    | ⟨0, _⟩ => rfl
    | ⟨1, _⟩ => rfl

/-- Block `t` of the first input starts at row `10000 t`. -/
theorem starts0 : ∀ t : Fin cfg0.N, win0_0.index t (0 : Fin 2) = t.val ∧ win0_0.index t (1 : Fin 2) = 0 :=
  (by decide +kernel : ∀ t : Fin grid0.N, _)

/-- Block `t` of the second input starts at row `10000 t`. -/
theorem starts1 : ∀ t : Fin cfg0.N, win0_1.index t (0 : Fin 2) = t.val ∧ win0_1.index t (1 : Fin 2) = 0 :=
  (by decide +kernel : ∀ t : Fin grid0.N, _)

/-- There are ten grid points. -/
theorem point_lt (t : Fin cfg0.N) : t.val < 10 := lt_of_lt_of_eq t.isLt N_0

/-- Entry `(r, l)` of the logits' block at point `t`. -/
theorem block0_cell (c : Dev nD) (t : Fin cfg0.N) (r : Fin 10000) (l : Fin 128) :
    (iblk m c 0 t : Vec Ideal S10000x128 .f32) (ix2 r l) =
      logits m c (ix2 l ⟨10000 * t.val + r.val, by have := point_lt t; omega⟩) := by
  have hs := starts0 t
  refine Eq.trans ?_ (flip_cell (logits m c) ⟨10000 * t.val + r.val, by have := point_lt t; omega⟩ l)
  show V m c main_v0 (((cfg0.win 0).blk t).view.emb (ix2 r l)) = _
  rw [staged0]
  refine congrArg _ ?_
  funext a
  apply Fin.ext
  match a with
  | ⟨0, _⟩ =>
    show win0_0.index t (0 : Fin 2) * 10000 + 1 * r.val = 10000 * t.val + r.val
    omega
  | ⟨1, _⟩ =>
    show win0_0.index t (1 : Fin 2) * 128 + 1 * l.val = l.val
    omega

/-- Entry `(r, l)` of the uniform numbers' block at point `t`. -/
theorem block1_cell (c : Dev nD) (t : Fin cfg0.N) (r : Fin 10000) (l : Fin 128) :
    (iblk m c 1 t : Vec Ideal S10000x128 .f32) (ix2 r l) =
      uniforms m c (ix2 l ⟨10000 * t.val + r.val, by have := point_lt t; omega⟩) := by
  have hs := starts1 t
  refine Eq.trans ?_ (flip_cell (uniforms m c) ⟨10000 * t.val + r.val, by have := point_lt t; omega⟩ l)
  show V m c main_v1 (((cfg0.win 1).blk t).view.emb (ix2 r l)) = _
  rw [staged1]
  refine congrArg _ ?_
  funext a
  apply Fin.ext
  match a with
  | ⟨0, _⟩ =>
    show win0_1.index t (0 : Fin 2) * 10000 + 1 * r.val = 10000 * t.val + r.val
    omega
  | ⟨1, _⟩ =>
    show win0_1.index t (1 : Fin 2) * 128 + 1 * l.val = l.val
    omega

/-- The scores of block `t`'s chunks are the row's scores. -/
theorem scores_cell (c : Dev nD) (t : Fin cfg0.N) (k : Nat) (hk : k < 1250) (s : Fin 8) (l : Fin 128) :
    scores (ms0_0 t) (hs0_0 t) (ms0_1 t) (hs0_1 t) (iblk m c 0 t) (iblk m c 1 t) k (ix2 s l) =
      scoreRow m c l (8 * (1250 * t.val + k) + s.val) := by
  have ht := point_lt t
  have hn : 8 * (1250 * t.val + k) + s.val < 100000 := by omega
  unfold scores scoreRow
  rw [score_cell, chunk_cell _ _ _ _ hk, chunk_cell _ _ _ _ hk, block0_cell, block1_cell, dif_pos hn]
  have e : (⟨10000 * t.val + (8 * k + s.val), by omega⟩ : Fin 100000) = ⟨8 * (1250 * t.val + k) + s.val, hn⟩ := Fin.ext (by
    show 10000 * t.val + (8 * k + s.val) = 8 * (1250 * t.val + k) + s.val
    omega)
  exact congrArg₂ gum (congrArg (fun q => logits m c (ix2 l q)) e) (congrArg (fun q => uniforms m c (ix2 l q)) e)

/-- The number of chunks before block `t`. -/
theorem base_eq (t : Fin cfg0.N) : base (grid0.coords t) = BitVec.ofNat 32 (1250 * t.val) := by
  have ht := point_lt t
  have e0 : (grid0.coords t 0).val = t.val / 1 % 10 := Pipeline.Grid.coords_val t 0 (by decide) rfl
  have e1 : (grid0.coords t 0).val = t.val := by omega
  unfold base
  rw [e1]
  show BitVec.ofNat 32 t.val * BitVec.ofNat 32 1250 = _
  rw [← BitVec.ofNat_mul, Nat.mul_comm]

/-- A block adds its own chunks to what an accumulator knows. -/
theorem block_knows (c : Dev nD) (t : Fin cfg0.N) (v : Nat → FVec Ideal S8x128 .f32) (j : Nat → IVec S8x128 32) (a s : Fin 8) (l : Fin 128)
    (h : Knows (scoreRow m c l) a.val s.val (1250 * t.val) (v a.val (ix2 s l)) (j a.val (ix2 s l))) :
    Knows (scoreRow m c l) a.val s.val (1250 * (t.val + 1))
      (endV (scores (ms0_0 t) (hs0_0 t) (ms0_1 t) (hs0_1 t) (iblk m c 0 t) (iblk m c 1 t)) v a.val (ix2 s l))
      (endI (scores (ms0_0 t) (hs0_0 t) (ms0_1 t) (hs0_1 t) (iblk m c 0 t) (iblk m c 1 t)) (base (grid0.coords t)) v j a.val (ix2 s l)) :=
  end_knows _ _ t.val (point_lt t) _ (base_eq t) a s l (fun k hk => scores_cell m c t k hk s l) v j h

/-- Before the first block nothing was looked at. -/
theorem cleared_knows (X : Nat → EReal) (arg4 : Memref sig .tc .vmem S64x128 .f32) (arg5 : Memref sig .tc .vmem S64x128 .i32)
    (a s : Fin 8) (l : Fin 128) :
    Knows X a.val s.val 0 (clearedV (F := Ideal) arg4 a.val (ix2 s l)) (clearedI (F := Ideal) arg5 a.val (ix2 s l)) := by
  rw [clearedV_cell, clearedI_cell]
  refine ⟨0, by omega, rfl, ?_⟩
  have e : (Scalar.ofBits (F := Ideal) .f32 0xFF800000#32 : EReal) = ⊥ := by
    show Ideal.ofBits .f32 0xFF800000#32 = ⊥
    simp [Ideal.ofBits, Ideal.ieee]
  rw [e]
  exact Best.start X (fun p hp => absurd hp.2.2 (Nat.not_lt_zero _)) _

/-- After block `n`, before the last, each accumulator knows the best of its positions in the first `n + 1` blocks. -/
theorem sweep (c : Dev nD) (a s : Fin 8) (l : Fin 128) : ∀ (n : Nat) (hn : n < cfg0.N), n < 9 →
    Knows (scoreRow m c l) a.val s.val (1250 * (n + 1)) ((outsAt0 m c n hn).2.1 (cell a s l)) ((outsAt0 m c n hn).2.2 (cell a s l))
  | 0, hn, _ => by
    rw [left_A_V m c ⟨0, hn⟩ rfl (Nat.zero_ne_add_one 8), left_A_I m c ⟨0, hn⟩ rfl (Nat.zero_ne_add_one 8), storeV_cell, storeI_cell]
    exact block_knows m c ⟨0, hn⟩ _ _ a s l (cleared_knows ..)
  | n + 1, hn, h9 => by
    have h0 : ¬(n + 1) % 10 = 0 := by omega
    have h1 : ¬(n + 1) % 10 = 9 := by omega
    rw [left_B_V m c ⟨n + 1, hn⟩ h0 h1, left_B_I m c ⟨n + 1, hn⟩ h0 h1, storeV_cell, storeI_cell]
    refine block_knows m c ⟨n + 1, hn⟩ _ _ a s l ?_
    rw [readV_cell, readI_cell]
    exact sweep c a s l n (Nat.lt_of_succ_lt hn) (by omega)

/-- In the last block each accumulator comes to know the best of all its positions. -/
theorem sweep_last (c : Dev nD) (t : Fin cfg0.N) (ht : t.val = 9) (a s : Fin 8) (l : Fin 128) :
    Knows (scoreRow m c l) a.val s.val 12500
      (endV (scores (ms0_0 t) (hs0_0 t) (ms0_1 t) (hs0_1 t) (iblk m c 0 t) (iblk m c 1 t))
        (readV scM0_0 (Memref.isWhole_whole _) (outsAt0 m c (t.val - 1) (Nat.lt_of_le_of_lt (Nat.sub_le _ _) t.isLt)).2.1) a.val (ix2 s l))
      (endI (scores (ms0_0 t) (hs0_0 t) (ms0_1 t) (hs0_1 t) (iblk m c 0 t) (iblk m c 1 t)) (base (grid0.coords t))
        (readV (F := Ideal) scM0_0 (Memref.isWhole_whole _) (outsAt0 m c (t.val - 1) (Nat.lt_of_le_of_lt (Nat.sub_le _ _) t.isLt)).2.1)
        (readI (F := Ideal) scM0_1 (Memref.isWhole_whole _) (outsAt0 m c (t.val - 1) (Nat.lt_of_le_of_lt (Nat.sub_le _ _) t.isLt)).2.2)
        a.val (ix2 s l)) := by
  have key : ∀ (n : Nat) (hn : n < cfg0.N), n < 9 → 1250 * t.val = 1250 * (n + 1) →
      Knows (scoreRow m c l) a.val s.val (1250 * t.val) ((outsAt0 m c n hn).2.1 (cell a s l)) ((outsAt0 m c n hn).2.2 (cell a s l)) :=
    fun n hn h9 e => by
      rw [e]
      exact sweep m c a s l n hn h9
  rw [show 12500 = 1250 * (t.val + 1) by omega]
  refine block_knows m c t _ _ a s l ?_
  rw [readV_cell, readI_cell]
  exact key _ _ (by omega) (by omega)

end Cert.Chain

end
-- ==== Proof.RefFold.lean ====
/-
  The reference's arg-max, read as a fold over one row of scores, is the row's first maximum.
-/
module

public import proofs.«01_k».proof.ReferenceIdeal
public import proofs.«01_k».proof.Proof.Scan
public import Idealize.ShloMosaic.PureOps.Ideal.Laws
public import Idealize.ShloMosaic.Lib.ValueIdxCore

@[expose] public section

noncomputable section

namespace Cert.Scan

open Idealize.ShloMosaic Idealize.ShloMosaic.ValueIdx Cert.ReferenceIdeal

/-- Row `r` of a 128 by 100000 array of extended reals, as a function of the natural column number;
    past the last column it is the least value. -/
def rowOf (x : FVec Ideal S128x100000 .f32) (r : Fin 128) (n : Nat) : EReal :=
  if h : n < 100000 then x (ix2 r ⟨n, h⟩) else ⊥

/-- The reducer's pair after the columns of `S`: either every column seen holds the least value and the
    pair is the initial one, or the pair is the largest value seen together with the least column that
    holds it. -/
def FoldInv (X : Nat → EReal) (S : Nat → Prop) (p : EReal × BitVec 32) : Prop :=
  (p = (⊥, 0#32) ∧ ∀ j, S j → X j = ⊥) ∨
  (⊥ < p.1 ∧ ∃ i, S i ∧ p.2 = BitVec.ofNat 32 i ∧ X i = p.1 ∧ ∀ j, S j → X j ≤ p.1 ∧ (X j = p.1 → i ≤ j))

/-- Signed comparison of two column numbers is comparison of naturals. -/
theorem slt_ofNat {a b : Nat} (ha : a < 2147483648) (hb : b < 2147483648) :
    (BitVec.ofNat 32 a).slt (BitVec.ofNat 32 b) = decide (a < b) := by
  rw [BitVec.slt_eq_decide]
  have h1 : (BitVec.ofNat 32 a).toInt = a := by
    rw [BitVec.toInt_eq_toNat_of_lt] <;> simp <;> omega
  have h2 : (BitVec.ofNat 32 b).toInt = b := by
    rw [BitVec.toInt_eq_toNat_of_lt] <;> simp <;> omega
  rw [h1, h2]; simp

/-- One application of the reducer, spelt with the order on the extended reals. -/
theorem reducer_eq (a b : EReal × BitVec 32) :
    reducer_argmax_f32_i32 (F := Ideal) a b =
      (if b.1 < a.1 then a.1 else b.1,
        if b.1 < a.1 ∨ (a.1 = b.1 ∧ a.2.slt b.2 = true) then a.2 else b.2) := by
  have e1 : FloatOps.cmpf (F := Ideal) (φ := .f32) .ogt a.1 b.1 = BitVec.ofBool (decide (b.1 < a.1)) := rfl
  have e2 : FloatOps.cmpf (F := Ideal) (φ := .f32) .une a.1 a.1 = BitVec.ofBool false := by
    simp [Ideal.cmpf_def, Ideal.cmp]
  have e3 : FloatOps.cmpf (F := Ideal) (φ := .f32) .oeq a.1 b.1 = BitVec.ofBool (decide (a.1 = b.1)) := by
    simp [Ideal.cmpf_def, Ideal.cmp]
  have e4 : IntOp.cmpi .slt a.2 b.2 = BitVec.ofBool (a.2.slt b.2) := rfl
  unfold reducer_argmax_f32_i32
  dsimp only
  rw [e1, e2, e3, e4]
  by_cases h1 : b.1 < a.1 <;> by_cases h2 : a.1 = b.1 <;> cases h3 : a.2.slt b.2 <;>
    simp [h1, h2, IntOp.ori, IntOp.andi, Scalar.select]

/-- The reducer keeps the description, one column more having been seen. -/
theorem FoldInv.step {X : Nat → EReal} {S S' : Nat → Prop} {p : EReal × BitVec 32} {n : Nat}
    (h : FoldInv X S p) (hS : ∀ j, S' j ↔ S j ∨ j = n) (hlt : ∀ j, S' j → j < 100000) :
    FoldInv X S' (reducer_argmax_f32_i32 (F := Ideal) p (X n, BitVec.ofNat 32 n)) := by
  have hn : n < 100000 := hlt n ((hS n).2 (Or.inr rfl))
  rw [reducer_eq]
  rcases h with ⟨rfl, hall⟩ | ⟨hpos, i, hi, hpi, hXi, hle⟩
  · by_cases hx : X n = ⊥
    · left
      constructor
      · by_cases h0 : n = 0
        · subst h0; simp [hx]
        · have : (BitVec.ofNat 32 0).slt (BitVec.ofNat 32 n) = true := by
            rw [slt_ofNat (by omega) (by omega)]; simp; omega
          simp only [hx]
          simp [this]
      · intro j hj
        rcases (hS j).1 hj with h | rfl
        · exact hall j h
        · exact hx
    · right
      have hlt' : ⊥ < X n := bot_lt_iff_ne_bot.2 hx
      have hnl : ¬ X n < (⊥ : EReal) := not_lt_bot
      dsimp only
      rw [if_neg hnl, if_neg (by rintro (h | ⟨h, -⟩); exacts [hnl h, hx h.symm])]
      refine ⟨hlt', n, (hS n).2 (Or.inr rfl), rfl, rfl, fun j hj => ?_⟩
      rcases (hS j).1 hj with h | rfl
      · rw [hall j h]
        exact ⟨bot_le, fun h => absurd h.symm hx⟩
      · exact ⟨le_rfl, fun _ => le_rfl⟩
  · right
    have hil : i < 100000 := hlt i ((hS i).2 (Or.inl hi))
    obtain ⟨v, w⟩ := p
    dsimp only at hpos hpi hXi hle ⊢
    subst hpi
    rw [slt_ofNat (by omega) (by omega)]
    rcases lt_trichotomy (X n) v with hlt1 | heq | hgt
    · rw [if_pos hlt1, if_pos (Or.inl hlt1)]
      refine ⟨hpos, i, (hS i).2 (Or.inl hi), rfl, hXi, fun j hj => ?_⟩
      rcases (hS j).1 hj with h | rfl
      · exact hle j h
      · exact ⟨hlt1.le, fun h => absurd h hlt1.ne⟩
    · rw [heq, if_neg (lt_irrefl _)]
      by_cases hin : i < n
      · rw [if_pos (Or.inr ⟨rfl, by simpa using hin⟩)]
        refine ⟨hpos, i, (hS i).2 (Or.inl hi), rfl, hXi, fun j hj => ?_⟩
        rcases (hS j).1 hj with h | rfl
        · exact hle j h
        · exact ⟨heq.le, fun _ => hin.le⟩
      · rw [if_neg (by rintro (h | ⟨-, h⟩); exacts [lt_irrefl _ h, hin (by simpa using h)])]
        refine ⟨hpos, n, (hS n).2 (Or.inr rfl), rfl, heq, fun j hj => ?_⟩
        rcases (hS j).1 hj with h | rfl
        · exact ⟨(hle j h).1, fun h' => (Nat.le_of_not_lt hin).trans ((hle j h).2 h')⟩
        · exact ⟨heq.le, fun _ => le_rfl⟩
    · have hnl : ¬ X n < v := hgt.le.not_gt
      rw [if_neg hnl, if_neg (by rintro (h | ⟨h, -⟩); exacts [hnl h, hgt.ne h])]
      refine ⟨hpos.trans hgt, n, (hS n).2 (Or.inr rfl), rfl, rfl, fun j hj => ?_⟩
      rcases (hS j).1 hj with h | rfl
      · exact ⟨(hle j h).1.trans hgt.le, fun h' => absurd (hle j h).1 (by rw [h']; exact hgt.not_ge)⟩
      · exact ⟨le_rfl, fun _ => le_rfl⟩

/-- Folding the reducer over a list of columns describes exactly the columns of the list. -/
theorem FoldInv.foldl {X : Nat → EReal} (L : List Nat) {S : Nat → Prop} {p : EReal × BitVec 32}
    (h : FoldInv X S p) (hS : ∀ j, S j → j < 100000) (hL : ∀ j ∈ L, j < 100000) :
    FoldInv X (fun j => S j ∨ j ∈ L)
      (L.foldl (fun q n => reducer_argmax_f32_i32 (F := Ideal) q (X n, BitVec.ofNat 32 n)) p) := by
  induction L generalizing S p with
  | nil => simpa using h
  | cons n L ih =>
    have hlt : ∀ j, (S j ∨ j = n) → j < 100000 := by
      rintro j (hj | rfl)
      · exact hS j hj
      · exact hL _ (by simp)
    have h' := ih (h.step (S' := fun j => S j ∨ j = n) (fun _ => Iff.rfl) hlt) hlt
      (fun j hj => hL j (by simp [hj]))
    simpa [or_assoc] using h'

/-- The pair that describes all the columns holds the first maximum's column. -/
theorem FoldInv.first {X : Nat → EReal} {S : Nat → Prop} {p : EReal × BitVec 32} (h : FoldInv X S p)
    (hS : ∀ j, S j ↔ j < 100000) : ∃ J, IsFirstMax X 100000 J ∧ p.2 = BitVec.ofNat 32 J := by
  rcases h with ⟨rfl, hall⟩ | ⟨hpos, i, hi, hpi, hXi, hle⟩
  · refine ⟨0, ⟨by omega, fun j hj => ?_, fun j hj => absurd hj (Nat.not_lt_zero _)⟩, rfl⟩
    rw [hall j ((hS j).2 hj)]; exact bot_le
  · refine ⟨i, ⟨(hS i).1 hi, fun j hj => ?_, fun j hj => ?_⟩, hpi⟩
    · rw [hXi]; exact (hle j ((hS j).2 hj)).1
    · have hjs := (hS j).2 (hj.trans ((hS i).1 hi))
      rw [hXi]
      refine lt_of_le_of_ne (hle j hjs).1 fun h => ?_
      have := (hle j hjs).2 h
      omega

/-- The reference's arg-max over the columns, with the column numbers as its indices and the least value
    as its start, is at every row the column of that row's first maximum. -/
theorem argmax_first (x : FVec Ideal S128x100000 .f32) (y : IVec S128x100000 32) (ix : FVec Ideal S_ .f32)
    (iy : IVec S_ 32) (h : S128x100000.ReducesTo [1] S128) (hu : 0 < S_.numel) (j : S128.Idx)
    (hy : ∀ i, y i = BitVec.ofNat 32 (i 1).val) (hix : ∀ i, ix i = (⊥ : EReal)) (hiy : ∀ i, iy i = 0#32) :
    ∃ J, IsFirstMax (rowOf x (j 0)) 100000 J ∧
      (Host.argReduce (reducer_argmax_f32_i32 (F := Ideal)) x y ix iy h hu j).2 = BitVec.ofNat 32 J := by
  rw [Ideal.argReduce_eq_reduce2, Host.reduce2_eq_foldl_fiber]
  have hdrop : ∀ i : S128x100000.Idx, h.drop i = j ↔ i 0 = j 0 := by
    intro i
    constructor
    · intro e
      have := congrArg (fun q : S128.Idx => (q 0).val) e
      apply Fin.ext
      rw [← this]
      exact (h.drop_apply_val_of_eq i 0 0).symm
    · intro e
      funext b
      have hb : b = 0 := Subsingleton.elim _ _
      subst hb
      apply Fin.ext
      rw [h.drop_apply_val_of_eq i 0 0, e]
  set L : List Nat := (((List.finRange S128x100000.numel).filter fun n =>
    h.drop (S128x100000.rowMajor.symm n) = j).map fun n => (S128x100000.rowMajor.symm n 1).val) with hL
  have hmem : ∀ k, k ∈ L ↔ k < 100000 := by
    intro k
    rw [hL, List.mem_map]
    constructor
    · rintro ⟨n, -, rfl⟩
      exact (S128x100000.rowMajor.symm n 1).isLt
    · intro hk
      refine ⟨S128x100000.rowMajor (ix2 (j 0) ⟨k, hk⟩), ?_, ?_⟩
      · rw [List.mem_filter]
        refine ⟨List.mem_finRange _, ?_⟩
        rw [Equiv.symm_apply_apply]
        exact decide_eq_true ((hdrop _).2 rfl)
      · rw [Equiv.symm_apply_apply]
  have hf : Host.argReduceFiber x y h j = L.map fun n => (rowOf x (j 0) n, BitVec.ofNat 32 n) := by
    rw [hL, List.map_map]
    unfold Host.argReduceFiber
    apply List.map_congr_left
    intro n hn
    have hd := of_decide_eq_true (List.mem_filter.1 hn).2
    have h0 := (hdrop _).1 hd
    rw [hy]
    show (x (S128x100000.rowMajor.symm n), BitVec.ofNat 32 (S128x100000.rowMajor.symm n 1).val) =
      (rowOf x (j 0) (S128x100000.rowMajor.symm n 1).val, BitVec.ofNat 32 (S128x100000.rowMajor.symm n 1).val)
    generalize S128x100000.rowMajor.symm n = i at h0 ⊢
    have hlt : (i 1).val < 100000 := (i 1).isLt
    refine Prod.ext ?_ rfl
    show x i = rowOf x (j 0) (i 1).val
    unfold rowOf
    rw [dif_pos hlt, ← h0]
    exact congrArg x (eq_ix2 i)
  rw [hf, List.foldl_map, hix, hiy]
  have h0 : FoldInv (rowOf x (j 0)) (fun _ => False) (⊥, 0#32) := Or.inl ⟨rfl, fun _ h => h.elim⟩
  exact (h0.foldl L (fun _ h => h.elim) (fun k hk => (hmem k).1 hk)).first (fun k => by simp [hmem])

end Cert.Scan
-- ==== Proof.Pick.lean ====
/- The last block's choice among the accumulators is the first position of the row's largest score. -/
module

public import proofs.«01_k».proof.Proof.Sweep
public import proofs.«01_k».proof.Proof.RefFold

@[expose] public section

noncomputable section

namespace Cert.Chain

open Idealize.ShloMosaic Idealize.ShloMosaic.ValueIdx
open Cert.KernelIdeal Cert.KernelIdeal.Gen Cert.Scan

/-- A fold of an operation that chooses one of its two arguments ends with the start or with one of the entries. -/
theorem fold_choice {α β : Type} [DecidableEq α] (op : β → β → β) [Std.Commutative op] [Std.Associative op]
    (hop : ∀ x y, op x y = x ∨ op x y = y) (b : β) (f : α → β) (S : Finset α) :
    S.fold op b f = b ∨ ∃ x ∈ S, S.fold op b f = f x := by
  induction S using Finset.induction_on with
  | empty => exact Or.inl rfl
  | insert x S hx ih =>
    rw [Finset.fold_insert hx]
    rcases hop (f x) (S.fold op b f) with h | h
    · exact Or.inr ⟨x, Finset.mem_insert_self x S, h⟩
    · rw [h]
      rcases ih with ih | ⟨y, hy, ih⟩
      · exact Or.inl ih
      · exact Or.inr ⟨y, Finset.mem_insert_of_mem hy, ih⟩

/-- The signed minimum of two small words is the word of the smaller number. -/
theorem minsi_ofNat {p q : Nat} (hp : p < 2147483648) (hq : q < 2147483648) :
    IntOp.minsi (BitVec.ofNat 32 p) (BitVec.ofNat 32 q) = BitVec.ofNat 32 (min p q) := by
  unfold IntOp.minsi
  rw [slt_ofNat hp hq]
  by_cases h : p < q
  · rw [min_eq_left h.le]
    simp [h]
  · rw [min_eq_right (not_lt.mp h)]
    simp [h]

/-- A fold of signed minima of small words is the word of the fold of minima. -/
theorem fold_minsi {α : Type} [DecidableEq α] (b : Nat) (hb : b < 2147483648) (g : α → Nat) (hg : ∀ x, g x < 2147483648) (S : Finset α) :
    S.fold IntOp.minsi (BitVec.ofNat 32 b) (fun x => BitVec.ofNat 32 (g x)) = BitVec.ofNat 32 (S.fold min b g) ∧
      S.fold min b g < 2147483648 := by
  induction S using Finset.induction_on with
  | empty => exact ⟨rfl, hb⟩
  | insert x S hx ih =>
    rw [Finset.fold_insert hx, Finset.fold_insert hx, ih.1, minsi_ofNat (hg x) ih.2]
    exact ⟨rfl, lt_of_le_of_lt (min_le_left _ _) (hg x)⟩

/-- Each of the accumulators is at most the largest of them. -/
theorem le_topV (V : Nat → FVec Ideal S8x128 .f32) (x : S8x128.Idx) : ∀ n, ∀ a ≤ n, (V a x : EReal) ≤ topV V n x
  | 0, a, h => by
    obtain rfl : a = 0 := by omega
    exact le_refl (V 0 x : EReal)
  | n + 1, a, h => by
    show (V a x : EReal) ≤ max (topV V n x : EReal) (V (n + 1) x)
    rcases Nat.lt_succ_iff_lt_or_eq.mp (Nat.lt_succ_of_le h) with h | rfl
    · exact (le_topV V x n a (by omega)).trans (le_max_left _ _)
    · exact le_max_right _ _

/-- The largest of the accumulators is one of them. -/
theorem topV_mem (V : Nat → FVec Ideal S8x128 .f32) (x : S8x128.Idx) : ∀ n, ∃ a ≤ n, (topV V n x : EReal) = V a x
  | 0 => ⟨0, le_rfl, rfl⟩
  | n + 1 => by
    obtain ⟨a, ha, e⟩ := topV_mem V x n
    show ∃ a ≤ n + 1, max (topV V n x : EReal) (V (n + 1) x) = V a x
    rcases max_choice (topV V n x : EReal) (V (n + 1) x) with h | h
    · exact ⟨a, by omega, h.trans e⟩
    · exact ⟨n + 1, le_rfl, h⟩

/-- The index of lane `l` with the sublane `s` put back. -/
theorem lift_lane (l : Fin 128) (s : Fin 8) : Shape.Reduces.lift reduces_S8x128_S128 (ix1 l) s = ix2 s l := by
  funext a
  apply Fin.ext
  match a with
  | ⟨0, _⟩ => rfl
  | ⟨1, _⟩ => rfl

/-- A vector of one row read at lane `l`. -/
theorem row_cell {α : Type} (x : S128.Idx → α) (l : Fin 128) : shapeCast S1x128 x shapeCasts_S128_S1x128 (ix2 0 l) = x (ix1 l) :=
  shapeCast_apply x _ _ _ (by
    rw [Shape.rowMajor_val_one, Shape.rowMajor_val_two]
    show l.val = 0 * 128 + l.val
    omega)

/-- The largest score of lane `l` bounds the accumulators of the lane and is one of them. -/
theorem top_cell (V : Nat → FVec Ideal S8x128 .f32) (l : Fin 128) :
    (∀ a < 8, ∀ s : Fin 8, (V a (ix2 s l) : EReal) ≤ top V (ix2 0 l)) ∧
      ∃ a < 8, ∃ s : Fin 8, (V a (ix2 s l) : EReal) = top V (ix2 0 l) := by
  have e : (top V (ix2 0 l) : EReal) = (Finset.univ : Finset (Fin 8)).fold max (⊥ : EReal) (fun s => (topV V 7 (ix2 s l) : EReal)) := by
    unfold top
    rw [row_cell]
    refine (Ideal.multiReduction_maximumf_single (a := (0 : Fin S8x128.rank)) (topV V 7) 0xFF800000#32 reduces_S8x128_S128 (.inl rfl) rfl (ix1 l)).trans ?_
    have hb : (FloatOps.ofBits (F := Ideal) .f32 0xFF800000#32 : EReal) = ⊥ := by
      show Ideal.ofBits .f32 0xFF800000#32 = ⊥
      simp [Ideal.ofBits, Ideal.ieee]
    rw [hb]
    exact congrArg (fun f : Fin 8 → EReal => (Finset.univ : Finset (Fin 8)).fold max (⊥ : EReal) f)
      (funext fun s => congrArg (topV V 7) (lift_lane l s))
  have hle : ∀ s : Fin 8, (topV V 7 (ix2 s l) : EReal) ≤ top V (ix2 0 l) := fun s => by
    rw [e]
    exact (Finset.le_fold_max _).mpr (Or.inr ⟨s, Finset.mem_univ s, le_rfl⟩)
  refine ⟨fun a ha s => (le_topV V (ix2 s l) 7 a (by omega)).trans (hle s), ?_⟩
  have hmem : ∃ s : Fin 8, (topV V 7 (ix2 s l) : EReal) = top V (ix2 0 l) := by
    rcases fold_choice (max : EReal → EReal → EReal) max_choice ⊥ (fun s : Fin 8 => (topV V 7 (ix2 s l) : EReal)) Finset.univ with h | ⟨s, -, h⟩
    · refine ⟨0, le_antisymm (hle 0) ?_⟩
      rw [e, h]
      exact bot_le
    · exact ⟨s, by rw [e, h]⟩
  obtain ⟨s, hs⟩ := hmem
  obtain ⟨a, ha, h⟩ := topV_mem V (ix2 s l) 7
  exact ⟨a, by omega, s, h.symm.trans hs⟩

/-- The position accumulator `a` names at sublane `s` where it holds the value `M`, else a large number. -/
def named (V : Nat → Fin 8 → EReal) (M : EReal) (J : Nat → Fin 8 → Nat) (a : Nat) (s : Fin 8) : Nat :=
  open Classical in if V a s = M then 8 * J a s + s.val else 1073741824

/-- A candidate's word, entry by entry. -/
theorem cand_cell (V : Nat → FVec Ideal S8x128 .f32) (I : Nat → IVec S8x128 32) (l : Fin 128) (J : Nat → Fin 8 → Nat) (a : Nat) (s : Fin 8)
    (hI : I a (ix2 s l) = BitVec.ofNat 32 (J a s)) :
    cand V I a (ix2 s l) = BitVec.ofNat 32 (named (fun a s => V a (ix2 s l)) (top V (ix2 0 l)) J a s) := by
  have hb : broadcastTo S8x128 (top V) broadcasts_S1x128_S8x128 (ix2 s l) = top V (ix2 0 l) :=
    broadcastTo_apply _ _ _ _ fun a => match a with
      | ⟨0, _⟩ => rfl
      | ⟨1, _⟩ => rfl
  have hw : addi (muli (I a) (broadcast S8x128 8#32)) (iota .tc S8x128 32 [0] iota_S8x128_d0_w32) (ix2 s l) = BitVec.ofNat 32 (8 * J a s + s.val) := by
    show I a (ix2 s l) * BitVec.ofNat 32 8 + BitVec.ofNat 32 (0 * 8 + s.val) = _
    rw [hI, ← BitVec.ofNat_mul, ← BitVec.ofNat_add]
    congr 1
    omega
  unfold cand named
  rw [select_apply, cmpf_apply, hb, hw, broadcast_apply]
  by_cases h : (V a (ix2 s l) : EReal) = top V (ix2 0 l)
  · rw [if_pos h]
    simp [Ideal.cmpf_def, Ideal.cmp, Scalar.select, h]
  · rw [if_neg h]
    simp [Ideal.cmpf_def, Ideal.cmp, Scalar.select, h]

/-- The smallest of the first `n` candidates and the large number. -/
def least (g : Nat → Nat) (n : Nat) : Nat := Nat.rec 1073741824 (fun a w => min w (g a)) n

/-- The least of the first `n` terms is at most each of them. -/
theorem least_le (g : Nat → Nat) : ∀ n, ∀ a < n, least g n ≤ g a
  | 0, a, h => absurd h (Nat.not_lt_zero a)
  | n + 1, a, h => by
    show min (least g n) (g n) ≤ g a
    rcases Nat.lt_succ_iff_lt_or_eq.mp h with h | rfl
    · exact (min_le_left _ _).trans (least_le g n a h)
    · exact min_le_right _ _

/-- The least of the first `n` terms and the start is less than half the range of a word. -/
theorem least_lt (g : Nat → Nat) : ∀ n, least g n < 2147483648
  | 0 => by
    show 1073741824 < 2147483648
    omega
  | n + 1 => lt_of_le_of_lt (min_le_left (least g n) (g n)) (least_lt g n)

/-- The least of the first `n` terms and the start is the start or one of the terms. -/
theorem least_mem (g : Nat → Nat) : ∀ n, least g n = 1073741824 ∨ ∃ a < n, least g n = g a
  | 0 => Or.inl rfl
  | n + 1 => by
    show min (least g n) (g n) = 1073741824 ∨ ∃ a < n + 1, min (least g n) (g n) = g a
    rcases min_choice (least g n) (g n) with h | h
    · rw [h]
      rcases least_mem g n with e | ⟨a, ha, e⟩
      · exact Or.inl e
      · exact Or.inr ⟨a, by omega, e⟩
    · exact Or.inr ⟨n, by omega, h⟩

/-- The smallest word of the first `n` candidates is the word of the smallest of them. -/
theorem bestI_cell (V : Nat → FVec Ideal S8x128 .f32) (I : Nat → IVec S8x128 32) (l : Fin 128) (g : Nat → Fin 8 → Nat)
    (hg : ∀ a s, g a s < 2147483648) (s : Fin 8) :
    ∀ n, (∀ a < n, cand V I a (ix2 s l) = BitVec.ofNat 32 (g a s)) → bestI V I n (ix2 s l) = BitVec.ofNat 32 (least (fun a => g a s) n)
  | 0, _ => rfl
  | n + 1, h => by
    show IntOp.minsi (bestI V I n (ix2 s l)) (cand V I n (ix2 s l)) = BitVec.ofNat 32 (min (least (fun a => g a s) n) (g n s))
    rw [bestI_cell V I l g hg s n (fun a ha => h a (by omega)), h n (by omega), minsi_ofNat (least_lt _ n) (hg n s)]

/-- If every accumulator knows the best of its positions, the word picked for lane `l` is the first position of the largest score. -/
theorem pick_first (V : Nat → FVec Ideal S8x128 .f32) (I : Nat → IVec S8x128 32) (X : Nat → EReal) (l : Fin 128)
    (h : ∀ a s : Fin 8, Knows X a.val s.val 12500 (V a.val (ix2 s l)) (I a.val (ix2 s l))) :
    ∃ J, IsFirstMax X 100000 J ∧ pick V I (ix2 0 l) = BitVec.ofNat 32 J := by
  choose J hJ hw hB using h
  obtain ⟨hle, a₀, ha₀, s₀, hV₀⟩ := top_cell V l
  let K : Nat → Fin 8 → Nat := fun a s => if ha : a < 8 then J ⟨a, ha⟩ s else 0
  have hKJ : ∀ (a : Nat) (ha : a < 8) (s : Fin 8), K a s = J ⟨a, ha⟩ s := fun a ha s => by
    show (if ha : a < 8 then J ⟨a, ha⟩ s else 0) = J ⟨a, ha⟩ s
    rw [dif_pos ha]
  have hK : ∀ a s, K a s < 12500 := fun a s => by
    show (if ha : a < 8 then J ⟨a, ha⟩ s else 0) < 12500
    split
    · exact hJ _ _
    · omega
  let g : Nat → Fin 8 → Nat := named (fun a s => V a (ix2 s l)) (top V (ix2 0 l)) K
  have hgpos : ∀ a s, (V a (ix2 s l) : EReal) = top V (ix2 0 l) → g a s = 8 * K a s + s.val := fun a s e => if_pos e
  have hgneg : ∀ a s, ¬(V a (ix2 s l) : EReal) = top V (ix2 0 l) → g a s = 1073741824 := fun a s e => if_neg e
  have hg : ∀ a s, g a s < 2147483648 := fun a s => by
    by_cases e : (V a (ix2 s l) : EReal) = top V (ix2 0 l)
    · rw [hgpos a s e]
      have := hK a s
      omega
    · rw [hgneg a s e]
      omega
  have hc : ∀ (s : Fin 8) (a : Nat), a < 8 → cand V I a (ix2 s l) = BitVec.ofNat 32 (g a s) := fun s a ha =>
    cand_cell V I l K a s ((hw ⟨a, ha⟩ s).trans (congrArg (BitVec.ofNat 32) (hKJ a ha s).symm))
  let r : Nat := (Finset.univ : Finset (Fin 8)).fold min 2147483647 (fun s => least (fun a => g a s) 8)
  have hpick : pick V I (ix2 0 l) = BitVec.ofNat 32 r := by
    unfold pick
    rw [row_cell]
    refine (multiReductionI_eq_fold .minsi (bestI V I 8) 2147483647#32 reduces_S8x128_S128 rfl (ix1 l)).trans ?_
    refine (Shape.Reduces.fold_filter_drop_single (a := (0 : Fin S8x128.rank)) reduces_S8x128_S128 IntOp.minsi 2147483647#32 (bestI V I 8) (ix1 l)).trans ?_
    refine Eq.trans ?_ (fold_minsi 2147483647 (by omega) (fun s : Fin 8 => least (fun a => g a s) 8) (fun s => least_lt _ 8) Finset.univ).1
    exact congrArg (fun f : Fin 8 → BitVec 32 => (Finset.univ : Finset (Fin 8)).fold IntOp.minsi 2147483647#32 f)
      (funext fun s => (congrArg (bestI V I 8) (lift_lane l s)).trans (bestI_cell V I l g hg s 8 (hc s)))
  have hr_le : ∀ a < 8, ∀ s : Fin 8, r ≤ g a s := fun a ha s =>
    ((Finset.fold_min_le _).mpr (Or.inr ⟨s, Finset.mem_univ s, le_rfl⟩)).trans (least_le (fun a => g a s) 8 a ha)
  have hr_small : r < 1073741824 := by
    have h1 := hr_le a₀ ha₀ s₀
    rw [hgpos a₀ s₀ hV₀] at h1
    have := hK a₀ s₀
    omega
  have hr_mem : ∃ a < 8, ∃ s : Fin 8, r = g a s := by
    rcases fold_choice (min : Nat → Nat → Nat) min_choice 2147483647 (fun s : Fin 8 => least (fun a => g a s) 8) Finset.univ with e | ⟨s, -, e⟩
    · have e' : r = 2147483647 := e
      omega
    · have e' : r = least (fun a => g a s) 8 := e
      rcases least_mem (fun a => g a s) 8 with q | ⟨a, ha, q⟩
      · omega
      · exact ⟨a, ha, s, e'.trans q⟩
  refine ⟨r, ?_, hpick⟩
  refine first_of_best (V := fun a s => if hs : s < 8 then (V a (ix2 ⟨s, hs⟩ l) : EReal) else ⊥)
    (I := fun a s => if hs : s < 8 then K a ⟨s, hs⟩ else 0) (m := top V (ix2 0 l)) ?_ ?_ ?_ ?_
  · intro a ha s hs
    have e : K a ⟨s, hs⟩ = J ⟨a, ha⟩ ⟨s, hs⟩ := hKJ a ha _
    simp only [dif_pos hs, e]
    exact hB ⟨a, ha⟩ ⟨s, hs⟩
  · intro a ha s hs
    simp only [dif_pos hs]
    exact hle a ha ⟨s, hs⟩
  · obtain ⟨a, ha, s, e⟩ := hr_mem
    have hV : (V a (ix2 s l) : EReal) = top V (ix2 0 l) := by
      by_contra hne
      rw [hgneg a s hne] at e
      omega
    refine ⟨a, ha, s.val, s.isLt, ?_, ?_⟩
    · simp only [dif_pos s.isLt]
      exact hV
    · simp only [dif_pos s.isLt]
      exact e.trans (hgpos a s hV)
  · intro a ha s hs hV
    simp only [dif_pos hs] at hV ⊢
    exact (hr_le a ha ⟨s, hs⟩).trans (hgpos a ⟨s, hs⟩ hV).le

end Cert.Chain

end
-- ==== Proof.Final.lean ====
/- What the kernel's run leaves in its result buffer. -/
module

public import proofs.«01_k».proof.Proof.Pick

@[expose] public section

noncomputable section

namespace Cert.Chain

open Idealize.ShloMosaic Idealize.ShloMosaic.TcCoe Idealize.ShloMosaic.StableHlo Idealize.ShloMosaic.ValueIdx Idealize.SL.Sem
open Cert.KernelIdeal Cert.KernelIdeal.Gen Cert.Scan

variable (m : (ℓ : Loc nD τ sig) → Buf (Elt Ideal) ℓ) (ρ : Dev nD → PrngReg)

/-- There is a last grid point. -/
theorem last_point : ∃ t : Fin cfg0.N, t.val = 9 := ⟨⟨9, lt_of_lt_of_eq (by decide) N_0.symm⟩, rfl⟩

/-- The result window's block is the first along both axes at every point. -/
theorem result_index : ∀ t : Fin cfg0.N, win0_2.index t (0 : Fin 2) = 0 ∧ win0_2.index t (1 : Fin 2) = 0 :=
  (by decide +kernel : ∀ t : Fin grid0.N, _)

/-- An entry of the result window's block is the entry of the array at the same place. -/
theorem result_emb (t : Fin cfg0.N) (y : S1x128.Idx) : ((cfg0.win 2).blk t).view.emb y = y := by
  obtain ⟨e0, e1⟩ := result_index t
  have hb0 : (((cfg0.win 2).blk t).view.emb y 0).val = win0_2.index t (0 : Fin 2) * 1 + 1 * (y 0).val := rfl
  have hb1 : (((cfg0.win 2).blk t).view.emb y 1).val = win0_2.index t (1 : Fin 2) * 128 + 1 * (y 1).val := rfl
  funext a
  apply Fin.ext
  match a with
  | ⟨0, _⟩ => exact hb0.trans (by
    rw [e0]
    show 0 * 1 + 1 * (y 0).val = (y 0).val
    omega)
  | ⟨1, _⟩ => exact hb1.trans (by
    rw [e1]
    show 0 * 128 + 1 * (y 1).val = (y 1).val
    omega)

/-- The result window's block is the whole array. -/
theorem result_covered (t : Fin cfg0.N) (i : S1x128.Idx) : i ∈ ((cfg0.win 2).blk t).view.set := by
  obtain ⟨e0, e1⟩ := result_index t
  have h0 : (i 0).val < 1 := (i 0).isLt
  have h1 : (i 1).val < 128 := (i 1).isLt
  show i ∈ ((View.whole main_v2).slice (win0_2.rect t)).set
  rw [View.set_slice_whole, Rect.mem_set_unit]
  intro a
  match a with
  | ⟨0, _⟩ =>
    show win0_2.index t (0 : Fin 2) * 1 ≤ (i 0).val ∧ (i 0).val < win0_2.index t (0 : Fin 2) * 1 + 1
    omega
  | ⟨1, _⟩ =>
    show win0_2.index t (1 : Fin 2) * 128 ≤ (i 1).val ∧ (i 1).val < win0_2.index t (1 : Fin 2) * 128 + 128
    omega

/-- The last point is the only one that writes the result back, and it writes what it left. -/
theorem result_flushed (c : Dev nD) (t q : Fin cfg0.N) (ht : t.val = 9) (hq : (cfg0.win 2).flush q = true) :
    (dats m 0 c).flushed 2 q = ((cfg0.win 2).blk q).view.read (Elt Ideal) (outsAt0 m c t.val t.isLt).1 := by
  have h9 : q.val % 10 = 9 := (flush0_2 q).mp hq
  have hlt := point_lt q
  obtain rfl : q = t := Fin.ext (by omega)
  show (cfg0.win 2).cut (grid0.coords q) ((dats m 0 c).after 2 q) = _
  rw [after0_2]
  funext y
  show (outsAt0 m c q.val q.isLt).1 ((cfg0.win 2).xinj (grid0.coords q) y) = (outsAt0 m c q.val q.isLt).1 (((cfg0.win 2).blk q).view.emb y)
  refine congrArg (outsAt0 m c q.val q.isLt).1 (Eq.trans ?_ (result_emb q y).symm)
  rfl

/-- After the grid the result array is what the last point left. -/
theorem result_array (c : Dev nD) (t : Fin cfg0.N) (ht : t.val = 9) :
    (dats m 0 c).arrAt 2 cfg0.N = (outsAt0 m c t.val t.isLt).1 :=
  (dats m 0 c).arrAt_eq_of_cover 2 _ (fun q hq => result_flushed m c t q ht hq)
    (fun i => ⟨t, (flush0_2 t).mpr (by omega), result_covered t i⟩)

/-- The kernel's result: the array the grid leaves, as a vector. -/
def result (c : Dev nD) : IVec S128 32 :=
  shapeCast (α := BitVec 32) S128 ((dats m 0 c).arrAt 2 cfg0.N) shapeCasts_S1x128_S128

/-- The result word of a lane is the first position of the lane's largest score. -/
theorem result_first (c : Dev nD) (j : S128.Idx) :
    ∃ J, IsFirstMax (scoreRow m c (j 0)) 100000 J ∧ result m c j = BitVec.ofNat 32 J := by
  obtain ⟨t, ht⟩ := last_point
  obtain ⟨J, hJ, hw⟩ := pick_first _ _ (scoreRow m c (j 0)) (j 0) (fun a s => sweep_last m c t ht a s (j 0))
  refine ⟨J, hJ, Eq.trans ?_ hw⟩
  unfold result
  rw [result_array m c t ht, left_C m c t (by omega) (by omega)]
  exact shapeCast_apply _ shapeCasts_S1x128_S128 j (ix2 0 (j 0)) (by
    rw [Shape.rowMajor_val_two, Shape.rowMajor_val_one]
    show 0 * 128 + (j 0).val = (j 0).val
    omega)

/-- The reshape after the grid puts the result in its buffer. -/
theorem tail_result (c : Dev nD) : Pipeline.afterTail₀ cfgs (dats m) 0 (V0 m) [hostOps1] c main_v3 = result m c := by
  unfold Pipeline.afterTail₀ result
  simp only [hostOps1, List.flatten_cons, List.flatten_nil, List.append_nil]
  after_results_simp
  exact congrArg (fun A => shapeCast (α := BitVec 32) S128 A shapeCasts_S1x128_S128)
    (Pipeline.withArrays_arr spec0 (by decide) c _ _ 2)

/-- Every run leaves the result in its buffer and the arguments alone. -/
theorem run_result : θ_run defs (onTc (τ := τ) (main (F := Ideal))) ⟨m, fun _ => 0, ρ⟩ fun r => ∀ c : Dev nD,
    r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Chain

end
-- ==== Proof.RefRun.lean ====
/- The reference: what it runs, and what it returns over the extended reals. -/
module

public import proofs.«01_k».proof.Defs
public import proofs.«01_k».proof.Proof.Gen.ReferenceIdeal
public import proofs.«01_k».proof.Proof.RefFold
public import Idealize.ShloMosaic.Lib.StableHlo.Run
public import Idealize.ShloMosaic.Lib.Quiescent

@[expose] public section

noncomputable section

namespace Cert.RefRun

open Idealize.ShloMosaic Idealize.ShloMosaic.TcCoe Idealize.ShloMosaic.StableHlo Idealize.ShloMosaic.ValueIdx Idealize.SL.Sem
open Cert.ReferenceIdeal Cert.ReferenceIdeal.Gen Cert.Scan

variable {F : FTy → Type} [FloatOps F]

/-- An array of one row of scores per lane. -/
abbrev Rows (F : FTy → Type) [FloatOps F] : Type := (⟨S128x100000, .f32⟩ : BufTy).Contents (Elt F)

/-- One number in every entry of such an array. -/
abbrev spread (x : (⟨S_, .f32⟩ : BufTy).Contents (Elt F)) : Rows F :=
  broadcastInDim S128x100000 (![] : Fin 0 → Fin S128x100000.rank) bcast_S_S128x100000 x

/-- The reference's operations in order: first the scores, then the five of its arg-max. -/
abbrev steps : List (HloOp τ sig (Elt F)) :=
  [ nullary main_cst (constant S_ .f32 0x3F800000#32),
    unary main_cst main_v0 (spread : (⟨S_, .f32⟩ : BufTy).Contents (Elt F) → Rows F),
    binary main_arg0 main_v0 main_v1 (Host.divf : Rows F → Rows F → Rows F),
    nullary main_cst_0 (constant S_ .f32 0x1E3CE508#32),
    unary main_cst_0 main_v2 (spread : (⟨S_, .f32⟩ : BufTy).Contents (Elt F) → Rows F),
    binary main_arg1 main_v2 main_v3 (addf : Rows F → Rows F → Rows F),
    unary main_v3 main_v4 (Host.log : Rows F → Rows F),
    unary main_v4 main_v5 (Host.negf : Rows F → Rows F),
    nullary main_cst_1 (constant S_ .f32 0x1E3CE508#32),
    unary main_cst_1 main_v6 (spread : (⟨S_, .f32⟩ : BufTy).Contents (Elt F) → Rows F),
    binary main_v5 main_v6 main_v7 (addf : Rows F → Rows F → Rows F),
    unary main_v7 main_v8 (Host.log : Rows F → Rows F),
    unary main_v8 main_v9 (Host.negf : Rows F → Rows F),
    binary main_v9 main_v1 main_v10 (addf : Rows F → Rows F → Rows F),
    TRef.nullary main_call0.v0 (iotaInDim S128x100000 32 1),
    TRef.nullary main_call0.cst (constant S_ .f32 0xFF800000#32),
    TRef.nullary main_call0.c (constantI S_ 32 0#32),
    TRef.quaternary (.of main_v10) main_call0.v0 main_call0.cst main_call0.c main_call0.v1_0
      (fun x y u v j => (Host.argReduce reducer_argmax_f32_i32 x y u v reducesTo_S128x100000_S128_d1 h_S_ j).1),
    TRef.quaternary (.of main_v10) main_call0.v0 main_call0.cst main_call0.c main_call0.v1_1
      (fun x y u v j => (Host.argReduce reducer_argmax_f32_i32 x y u v reducesTo_S128x100000_S128_d1 h_S_ j).2) ]

/-- The scores the reference takes the arg-max of. -/
def refScore (l u : FVec F S128x100000 .f32) : FVec F S128x100000 .f32 :=
  addf (Host.negf (Host.log (addf (Host.negf (Host.log (addf u (spread (constant S_ .f32 0x1E3CE508#32)))))
      (spread (constant S_ .f32 0x1E3CE508#32)))))
    (Host.divf l (spread (constant S_ .f32 0x3F800000#32)))

/-- The second components of a family of pairs. -/
def seconds {α : Type} (f : S128.Idx → α × BitVec 32) : IVec S128 32 := fun j => (f j).2

/-- The second components, read at an entry. -/
theorem seconds_apply {α : Type} (f : S128.Idx → α × BitVec 32) (j : S128.Idx) : seconds f j = (f j).2 := rfl

/-- The reference's result. -/
def refOut (l u : FVec F S128x100000 .f32) : IVec S128 32 :=
  seconds (Host.argReduce reducer_argmax_f32_i32 (refScore l u) (iotaInDim S128x100000 32 1) (constant S_ .f32 0xFF800000#32) (constantI S_ 32 0#32)
    reducesTo_S128x100000_S128_d1 h_S_)

/-- The reference is these operations one after the other. -/
theorem main_steps (c : Dev nD) : main (F := F) c = seq steps := by
  simp only [main, fn_argmax.body, seq, bind_assoc, pure_bind]

/-- They leave the result in its buffer. -/
theorem steps_out (V : Valuation τ sig (Elt F)) :
    after steps V (main_v11 : DevRef τ sig) = refOut (V (main_arg0 : DevRef τ sig)) (V (main_arg1 : DevRef τ sig)) := by
  after_results_simp
  rfl

/-- They leave the first argument alone. -/
theorem steps_arg0 (V : Valuation τ sig (Elt F)) : after steps V (main_arg0 : DevRef τ sig) = V (main_arg0 : DevRef τ sig) := by
  simp only [after_cons, after_nil]
  rfl

/-- They leave the second argument alone. -/
theorem steps_arg1 (V : Valuation τ sig (Elt F)) : after steps V (main_arg1 : DevRef τ sig) = V (main_arg1 : DevRef τ sig) := by
  simp only [after_cons, after_nil]
  rfl

/-- The reference has no buffer that lives in a scope. -/
theorem no_scoped_refs : (Finset.univ.filter fun b : Ref sig .tc => b.isScoped) = ∅ := by decide

/-- The reference has no semaphore that lives in a scope. -/
theorem no_scoped_sems : (Finset.univ.filter fun sm : SemLoc sig => sm.isScoped .tc) = ∅ := by decide

/-- They touch buffers of the core only. -/
theorem steps_sub : (steps : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., unary_bufs_sub .., nullary_bufs_sub .., unary_bufs_sub .., binary_bufs_sub .., unary_bufs_sub ..,
    unary_bufs_sub .., binary_bufs_sub .., nullary_bufs_sub .., nullary_bufs_sub .., nullary_bufs_sub ..,
    quaternary_bufs_sub .., quaternary_bufs_sub ..⟩

/-- Every run ends with each buffer as the operations leave it. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after steps (launchContents m c) (b : DevRef τ sig) :=
  run_seq no_scoped_refs no_scoped_sems defs main (fun _ => steps) main_steps (fun _ => steps_sub) m ρ

/-- The reference runs, leaves its arguments alone and ends with no semaphore raised. -/
theorem frame : Cert.quiescent_ReferenceIdeal := fun m ρ _ =>
  (θ_run defs _ _).mono (fun r h => ⟨fun c => ⟨(h c main_arg0).trans (steps_arg0 _), (h c main_arg1).trans (steps_arg1 _)⟩,
    sem_eq_zero_of_no_sems (by decide) r.2⟩) (run m ρ)

/-- The numbers along an axis, read at an entry. -/
theorem iota_cell (i : S128x100000.Idx) : iotaInDim S128x100000 32 1 i = BitVec.ofNat 32 (i 1).val := rfl

/-- The start of the arg-max is the least value. -/
theorem least_start (i : S_.Idx) : constant (F := Ideal) S_ .f32 0xFF800000#32 i = (⊥ : EReal) := by
  show Ideal.ofBits .f32 0xFF800000#32 = ⊥
  simp [Ideal.ofBits, Ideal.ieee]

/-- The start of the arg-max's index is zero. -/
theorem zero_start (i : S_.Idx) : constantI S_ 32 0#32 i = 0#32 := rfl

/-- The reference's result for a lane is the first position of the largest of its scores. -/
theorem refOut_first (l u : FVec Ideal S128x100000 .f32) (j : S128.Idx) :
    ∃ J, IsFirstMax (rowOf (refScore l u) (j 0)) 100000 J ∧ refOut l u j = BitVec.ofNat 32 J := by
  rw [refOut, seconds_apply]
  exact argmax_first (refScore l u) (iotaInDim S128x100000 32 1) (constant S_ .f32 0xFF800000#32) (constantI S_ 32 0#32)
    reducesTo_S128x100000_S128_d1 h_S_ j iota_cell least_start zero_start

end Cert.RefRun

end
-- ==== Proof.Match.lean ====
/- The kernel's result and the reference's are the same over the extended reals. -/
module

public import proofs.«01_k».proof.Proof.Final
public import proofs.«01_k».proof.Proof.RefRun

@[expose] public section

noncomputable section

namespace Cert.Match

open Idealize.ShloMosaic Idealize.ShloMosaic.TcCoe Idealize.ShloMosaic.StableHlo Idealize.ShloMosaic.ValueIdx Idealize.SL.Sem
open Cert.Scan Cert.Chain Cert.RefRun

/-- Division by one changes nothing. -/
theorem div_one_word (x : EReal) : Ideal.div x (Ideal.ofBits .f32 0x3F800000#32) = x := by
  have h : Ideal.ofBits .f32 0x3F800000#32 = (1 : EReal) := by
    simp [Ideal.ofBits, Ideal.ieee, -EReal.coe_mul]
    norm_num
  rw [h]
  simp [Ideal.div]

/-- The reference's score of an entry is the kernel's. -/
theorem score_eq (l u : FVec Ideal Cert.ReferenceIdeal.S128x100000 .f32) (i : Cert.ReferenceIdeal.S128x100000.Idx) :
    refScore l u i = gum (l i) (u i) := by
  let T : EReal := Ideal.ofBits .f32 0x1E3CE508#32
  have hr : refScore l u i = -Ideal.log (-Ideal.log (u i + T) + T) + Ideal.div (l i) (Ideal.ofBits .f32 0x3F800000#32) := rfl
  have hk : gum (l i) (u i) = (show EReal from l i) - Ideal.log (T - Ideal.log (u i + T)) := rfl
  rw [hr, hk, div_one_word, sub_eq_add_neg, sub_eq_add_neg, add_comm (-Ideal.log (u i + T)) T]
  exact add_comm _ _

/-- A row of the reference's scores is the row of the kernel's. -/
theorem row_eq (m : (ℓ : Loc Cert.KernelIdeal.nD Cert.KernelIdeal.τ Cert.KernelIdeal.sig) → Buf (Elt Ideal) ℓ)
    (c : Dev Cert.KernelIdeal.nD) (l : Fin 128) : rowOf (refScore (logits m c) (uniforms m c)) l = scoreRow m c l := by
  funext n
  unfold rowOf scoreRow
  split
  · exact score_eq _ _ _
  · rfl

/-- The two results are the same. -/
theorem out_eq (m : (ℓ : Loc Cert.KernelIdeal.nD Cert.KernelIdeal.τ Cert.KernelIdeal.sig) → Buf (Elt Ideal) ℓ)
    (c : Dev Cert.KernelIdeal.nD) : refOut (logits m c) (uniforms m c) = result m c := by
  funext j
  obtain ⟨J, hJ, hj⟩ := refOut_first (logits m c) (uniforms m c) j
  obtain ⟨K, hK, hk⟩ := result_first m c j
  have hJ' : IsFirstMax (scoreRow m c (j 0)) 100000 J :=
    (congrArg (fun X => IsFirstMax X 100000 J) (row_eq m c (j 0))).mp hJ
  exact hj.trans ((congrArg (BitVec.ofNat 32) (hJ'.unique hK)).trans hk.symm)

/-- From equal arguments the kernel and the reference both run, end with equal results and leave their arguments alone. -/
theorem results_equal : Cert.algebraic_KernelIdeal_ReferenceIdeal := by
  intro m g m' g' _ hargs
  refine ⟨fun c => result m c, run_result m g, (θ_run _ _ _).mono (fun r h c => ⟨?_, ?_, ?_⟩) (RefRun.run m' g')⟩
  · refine ((h c Cert.ReferenceIdeal.main_v11).trans (steps_out _)).trans (Eq.trans ?_ (out_eq m c))
    exact congrArg₂ refOut (hargs c).1 (hargs c).2
  · exact (h c Cert.ReferenceIdeal.main_arg0).trans (steps_arg0 _)
  · exact (h c Cert.ReferenceIdeal.main_arg1).trans (steps_arg1 _)

end Cert.Match

end
-- ==== Proof.lean ====
/- The proof of the certificate's claim: the three programs run and leave their arguments and semaphores as they were,
   the ideal kernel is the kernel's own text, and the ideal kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Match
public import Idealize.ShloMosaic.Adequacy
public import Idealize.ShloMosaic.Init

@[expose] public section

noncomputable section

namespace Cert.Proof

/-- Everything the certificate claims: the three frames, that the ideal kernel is the kernel's text, and equal results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, Cert.RefRun.frame, trivial,
    Cert.Match.results_equal⟩

end Cert.Proof

end
